-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v45_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x256 : Shape := ⟨2, ![32768, 256]⟩
abbrev S4x1024x256 : Shape := ⟨3, ![4, 1024, 256]⟩
abbrev S1x1024x256 : Shape := ⟨3, ![1, 1024, 256]⟩
abbrev S1024x256 : Shape := ⟨2, ![1024, 256]⟩
abbrev S_ : Shape := ⟨0, ![]⟩
abbrev S1024 : Shape := ⟨1, ![1024]⟩
abbrev S1x1024 : Shape := ⟨2, ![1, 1024]⟩
abbrev S4x1024 : Shape := ⟨2, ![4, 1024]⟩
abbrev S4x256x1024 : Shape := ⟨3, ![4, 256, 1024]⟩
abbrev S4x768x1024 : Shape := ⟨3, ![4, 768, 1024]⟩
abbrev S4x32768 : Shape := ⟨2, ![4, 32768]⟩
abbrev S4x1024x1024 : Shape := ⟨3, ![4, 1024, 1024]⟩
abbrev S1024x1 : Shape := ⟨2, ![1024, 1]⟩
abbrev S1024x1024 : Shape := ⟨2, ![1024, 1024]⟩
abbrev S1x1024x1024 : Shape := ⟨3, ![1, 1024, 1024]⟩
abbrev S256x1024 : Shape := ⟨2, ![256, 1024]⟩
abbrev S1x768x1024 : Shape := ⟨3, ![1, 768, 1024]⟩
abbrev S768x1024 : Shape := ⟨2, ![768, 1024]⟩
abbrev S32768x4 : Shape := ⟨2, ![32768, 4]⟩

abbrev nBuf : Space → Nat
  | .hbm => 58
  | .vmem => 10
  | .smem => 0
  | _ => 0

abbrev bufTy : (tb : Table) → Fin (tcTables nBuf tb) → BufTy
  | .hbm, ⟨0, _⟩ => ⟨S32768x256, .f32⟩
  | .hbm, ⟨1, _⟩ => ⟨S4x1024x256, .f32⟩
  | .hbm, ⟨2, _⟩ => ⟨S1x1024x256, .f32⟩
  | .hbm, ⟨3, _⟩ => ⟨S1024x256, .f32⟩
  | .hbm, ⟨4, _⟩ => ⟨S1x1024x256, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024, .f32⟩
  | .hbm, ⟨9, _⟩ => ⟨S1x1024x256, .f32⟩
  | .hbm, ⟨10, _⟩ => ⟨S1024x256, .f32⟩
  | .hbm, ⟨11, _⟩ => ⟨S1x1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024, .f32⟩
  | .hbm, ⟨16, _⟩ => ⟨S1x1024x256, .f32⟩
  | .hbm, ⟨17, _⟩ => ⟨S1024x256, .f32⟩
  | .hbm, ⟨18, _⟩ => ⟨S1x1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024, .f32⟩
  | .hbm, ⟨23, _⟩ => ⟨S1x1024x256, .f32⟩
  | .hbm, ⟨24, _⟩ => ⟨S1024x256, .f32⟩
  | .hbm, ⟨25, _⟩ => ⟨S1x1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S4x1024, .f32⟩
  | .hbm, ⟨35, _⟩ => ⟨S4x1024x256, .bf16⟩
  | .hbm, ⟨36, _⟩ => ⟨S4x1024x256, .f32⟩
  | .hbm, ⟨37, _⟩ => ⟨S4x1024x256, .i1⟩
  | .hbm, ⟨38, _⟩ => ⟨S4x1024x256, .f32⟩
  | .hbm, ⟨39, _⟩ => ⟨S4x1024x256, .f32⟩
  | .hbm, ⟨40, _⟩ => ⟨S_, .f32⟩
  | .hbm, ⟨41, _⟩ => ⟨S_, .f32⟩
  | .hbm, ⟨42, _⟩ => ⟨S4x1024x256, .f32⟩
  | .hbm, ⟨43, _⟩ => ⟨S4x1024x256, .f32⟩
  | .hbm, ⟨44, _⟩ => ⟨S4x1024x256, .bf16⟩
  | .hbm, ⟨45, _⟩ => ⟨S4x1024x256, .f32⟩
  | .hbm, ⟨46, _⟩ => ⟨S4x1024x256, .f32⟩
  | .hbm, ⟨47, _⟩ => ⟨S4x1024x256, .bf16⟩
  | .hbm, ⟨48, _⟩ => ⟨S4x256x1024, .bf16⟩
  | .hbm, ⟨49, _⟩ => ⟨S4x256x1024, .bf16⟩
  | .hbm, ⟨50, _⟩ => ⟨S4x256x1024, .bf16⟩
  | .hbm, ⟨51, _⟩ => ⟨S4x768x1024, .bf16⟩
  | .hbm, ⟨52, _⟩ => ⟨S_, .f32⟩
  | .hbm, ⟨53, _⟩ => ⟨S4x1024x256, .f32⟩
  | .hbm, ⟨54, _⟩ => ⟨S4x1024x256, .f32⟩
  | .hbm, ⟨55, _⟩ => ⟨S4x32768, .i32⟩
  | .hbm, ⟨56, _⟩ => ⟨S32768x256, .f32⟩
  | .hbm, ⟨57, _⟩ => ⟨S32768x4, .i32⟩
  | .local _ .vmem, ⟨0, _⟩ => ⟨S1024x256, .f32⟩
  | .local _ .vmem, ⟨1, _⟩ => ⟨S1024x256, .f32⟩
  | .local _ .vmem, ⟨2, _⟩ => ⟨S4x1024x256, .f32⟩
  | .local _ .vmem, ⟨3, _⟩ => ⟨S4x768x1024, .bf16⟩
  | .local _ .vmem, ⟨4, _⟩ => ⟨S4x1024, .f32⟩
  | .local _ .vmem, ⟨5, _⟩ => ⟨S4x1024, .i32⟩
  | .local _ .vmem, ⟨6, _⟩ => ⟨S4x1024, .i32⟩
  | .local _ .vmem, ⟨7, _⟩ => ⟨S1024x256, .f32⟩
  | .local _ .vmem, ⟨8, _⟩ => ⟨S1024x256, .f32⟩
  | .local _ .vmem, ⟨9, _⟩ => ⟨S4x1024x1024, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45_0 : Ref sig .tc := ⟨.hbm, 55, rfl⟩
abbrev main_v45_1 : Ref sig .tc := ⟨.hbm, 56, rfl⟩
abbrev main_v46 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x256 : Shape := ⟨2, ![32768, 256]⟩
abbrev S4x1024x256 : Shape := ⟨3, ![4, 1024, 256]⟩
abbrev S_ : Shape := ⟨0, ![]⟩
abbrev S1x1024x256 : Shape := ⟨3, ![1, 1024, 256]⟩
abbrev S1024x256 : Shape := ⟨2, ![1024, 256]⟩
abbrev S32768 : Shape := ⟨1, ![32768]⟩
abbrev S32768x1 : Shape := ⟨2, ![32768, 1]⟩
abbrev S256x1024 : Shape := ⟨2, ![256, 1024]⟩
abbrev S32768x1024 : Shape := ⟨2, ![32768, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S32768x4 : Shape := ⟨2, ![32768, 4]⟩

abbrev nBuf : Space → Nat
  | .hbm => 205
  | .vmem => 0
  | .smem => 0
  | _ => 0

abbrev hbmTy0_0 (i : Nat) : BufTy := match i % 128 with
  | 0 => ⟨S32768x256, .f32⟩
  | 1 => ⟨S4x1024x256, .f32⟩
  | 2 => ⟨S_, .f32⟩
  | 3 => ⟨S32768x256, .f32⟩
  | 4 => ⟨S1x1024x256, .f32⟩
  | 5 => ⟨S1024x256, .f32⟩
  | 6 => ⟨S32768x256, .f32⟩
  | 7 => ⟨S_, .f32⟩
  | 8 => ⟨S32768, .f32⟩
  | 9 => ⟨S32768x1, .f32⟩
  | 10 => ⟨S256x1024, .f32⟩
  | 11 => ⟨S32768x1024, .f32⟩
  | 12 => ⟨S_, .f32⟩
  | 13 => ⟨S32768x1024, .f32⟩
  | 14 => ⟨S32768x1024, .f32⟩
  | 15 => ⟨S32768x1024, .f32⟩
  | 16 => ⟨S32768x1024, .f32⟩
  | 17 => ⟨S1024x256, .f32⟩
  | 18 => ⟨S_, .f32⟩
  | 19 => ⟨S1024, .f32⟩
  | 20 => ⟨S1x1024, .f32⟩
  | 21 => ⟨S32768x1024, .f32⟩
  | 22 => ⟨S32768x1024, .f32⟩
  | 23 => ⟨S32768x1024, .i32⟩
  | 24 => ⟨S_, .f32⟩
  | 25 => ⟨S_, .i32⟩
  | 26 => ⟨S32768, .f32⟩
  | 27 => ⟨S32768, .i32⟩
  | 28 => ⟨S_, .i32⟩
  | 29 => ⟨S32768, .i32⟩
  | 30 => ⟨S32768, .i1⟩
  | 31 => ⟨S_, .i32⟩
  | 32 => ⟨S32768, .i32⟩
  | 33 => ⟨S32768, .i32⟩
  | 34 => ⟨S32768, .i32⟩
  | 35 => ⟨S32768x1, .i32⟩
  | 36 => ⟨S1, .i32⟩
  | 37 => ⟨S_, .i32⟩
  | 38 => ⟨S32768x1, .i32⟩
  | 39 => ⟨S32768x1, .i1⟩
  | 40 => ⟨S1x1, .i32⟩
  | 41 => ⟨S32768x1, .i32⟩
  | 42 => ⟨S32768x1, .i1⟩
  | 43 => ⟨S32768x1, .i1⟩
  | 44 => ⟨S_, .i1⟩
  | 45 => ⟨S32768, .i1⟩
  | 46 => ⟨S32768x256, .f32⟩
  | 47 => ⟨S32768x256, .i1⟩
  | 48 => ⟨S_, .f32⟩
  | 49 => ⟨S32768x256, .f32⟩
  | 50 => ⟨S32768x256, .f32⟩
  | 51 => ⟨S32768x256, .f32⟩
  | 52 => ⟨S32768x256, .f32⟩
  | 53 => ⟨S1x1024x256, .f32⟩
  | 54 => ⟨S1024x256, .f32⟩
  | 55 => ⟨S32768x256, .f32⟩
  | 56 => ⟨S_, .f32⟩
  | 57 => ⟨S32768, .f32⟩
  | 58 => ⟨S32768x1, .f32⟩
  | 59 => ⟨S256x1024, .f32⟩
  | 60 => ⟨S32768x1024, .f32⟩
  | 61 => ⟨S_, .f32⟩
  | 62 => ⟨S32768x1024, .f32⟩
  | 63 => ⟨S32768x1024, .f32⟩
  | 64 => ⟨S32768x1024, .f32⟩
  | 65 => ⟨S32768x1024, .f32⟩
  | 66 => ⟨S1024x256, .f32⟩
  | 67 => ⟨S_, .f32⟩
  | 68 => ⟨S1024, .f32⟩
  | 69 => ⟨S1x1024, .f32⟩
  | 70 => ⟨S32768x1024, .f32⟩
  | 71 => ⟨S32768x1024, .f32⟩
  | 72 => ⟨S32768x1024, .i32⟩
  | 73 => ⟨S_, .f32⟩
  | 74 => ⟨S_, .i32⟩
  | 75 => ⟨S32768, .f32⟩
  | 76 => ⟨S32768, .i32⟩
  | 77 => ⟨S_, .i32⟩
  | 78 => ⟨S32768, .i32⟩
  | 79 => ⟨S32768, .i1⟩
  | 80 => ⟨S_, .i32⟩
  | 81 => ⟨S32768, .i32⟩
  | 82 => ⟨S32768, .i32⟩
  | 83 => ⟨S32768, .i32⟩
  | 84 => ⟨S32768x1, .i32⟩
  | 85 => ⟨S1, .i32⟩
  | 86 => ⟨S_, .i32⟩
  | 87 => ⟨S32768x1, .i32⟩
  | 88 => ⟨S32768x1, .i1⟩
  | 89 => ⟨S1x1, .i32⟩
  | 90 => ⟨S32768x1, .i32⟩
  | 91 => ⟨S32768x1, .i1⟩
  | 92 => ⟨S32768x1, .i1⟩
  | 93 => ⟨S_, .i1⟩
  | 94 => ⟨S32768, .i1⟩
  | 95 => ⟨S32768x256, .f32⟩
  | 96 => ⟨S32768x256, .i1⟩
  | 97 => ⟨S_, .f32⟩
  | 98 => ⟨S32768x256, .f32⟩
  | 99 => ⟨S32768x256, .f32⟩
  | 100 => ⟨S32768x256, .f32⟩
  | 101 => ⟨S32768x256, .f32⟩
  | 102 => ⟨S1x1024x256, .f32⟩
  | 103 => ⟨S1024x256, .f32⟩
  | 104 => ⟨S32768x256, .f32⟩
  | 105 => ⟨S_, .f32⟩
  | 106 => ⟨S32768, .f32⟩
  | 107 => ⟨S32768x1, .f32⟩
  | 108 => ⟨S256x1024, .f32⟩
  | 109 => ⟨S32768x1024, .f32⟩
  | 110 => ⟨S_, .f32⟩
  | 111 => ⟨S32768x1024, .f32⟩
  | 112 => ⟨S32768x1024, .f32⟩
  | 113 => ⟨S32768x1024, .f32⟩
  | 114 => ⟨S32768x1024, .f32⟩
  | 115 => ⟨S1024x256, .f32⟩
  | 116 => ⟨S_, .f32⟩
  | 117 => ⟨S1024, .f32⟩
  | 118 => ⟨S1x1024, .f32⟩
  | 119 => ⟨S32768x1024, .f32⟩
  | 120 => ⟨S32768x1024, .f32⟩
  | 121 => ⟨S32768x1024, .i32⟩
  | 122 => ⟨S_, .f32⟩
  | 123 => ⟨S_, .i32⟩
  | 124 => ⟨S32768, .f32⟩
  | 125 => ⟨S32768, .i32⟩
  | 126 => ⟨S_, .i32⟩
  | 127 => ⟨S32768, .i32⟩
  | _ => ⟨S32768x256, .f32⟩

abbrev hbmTy0_1 (i : Nat) : BufTy := match i % 128 with
  | 0 => ⟨S32768, .i1⟩
  | 1 => ⟨S_, .i32⟩
  | 2 => ⟨S32768, .i32⟩
  | 3 => ⟨S32768, .i32⟩
  | 4 => ⟨S32768, .i32⟩
  | 5 => ⟨S32768x1, .i32⟩
  | 6 => ⟨S1, .i32⟩
  | 7 => ⟨S_, .i32⟩
  | 8 => ⟨S32768x1, .i32⟩
  | 9 => ⟨S32768x1, .i1⟩
  | 10 => ⟨S1x1, .i32⟩
  | 11 => ⟨S32768x1, .i32⟩
  | 12 => ⟨S32768x1, .i1⟩
  | 13 => ⟨S32768x1, .i1⟩
  | 14 => ⟨S_, .i1⟩
  | 15 => ⟨S32768, .i1⟩
  | 16 => ⟨S32768x256, .f32⟩
  | 17 => ⟨S32768x256, .i1⟩
  | 18 => ⟨S_, .f32⟩
  | 19 => ⟨S32768x256, .f32⟩
  | 20 => ⟨S32768x256, .f32⟩
  | 21 => ⟨S32768x256, .f32⟩
  | 22 => ⟨S32768x256, .f32⟩
  | 23 => ⟨S1x1024x256, .f32⟩
  | 24 => ⟨S1024x256, .f32⟩
  | 25 => ⟨S32768x256, .f32⟩
  | 26 => ⟨S_, .f32⟩
  | 27 => ⟨S32768, .f32⟩
  | 28 => ⟨S32768x1, .f32⟩
  | 29 => ⟨S256x1024, .f32⟩
  | 30 => ⟨S32768x1024, .f32⟩
  | 31 => ⟨S_, .f32⟩
  | 32 => ⟨S32768x1024, .f32⟩
  | 33 => ⟨S32768x1024, .f32⟩
  | 34 => ⟨S32768x1024, .f32⟩
  | 35 => ⟨S32768x1024, .f32⟩
  | 36 => ⟨S1024x256, .f32⟩
  | 37 => ⟨S_, .f32⟩
  | 38 => ⟨S1024, .f32⟩
  | 39 => ⟨S1x1024, .f32⟩
  | 40 => ⟨S32768x1024, .f32⟩
  | 41 => ⟨S32768x1024, .f32⟩
  | 42 => ⟨S32768x1024, .i32⟩
  | 43 => ⟨S_, .f32⟩
  | 44 => ⟨S_, .i32⟩
  | 45 => ⟨S32768, .f32⟩
  | 46 => ⟨S32768, .i32⟩
  | 47 => ⟨S_, .i32⟩
  | 48 => ⟨S32768, .i32⟩
  | 49 => ⟨S32768, .i1⟩
  | 50 => ⟨S_, .i32⟩
  | 51 => ⟨S32768, .i32⟩
  | 52 => ⟨S32768, .i32⟩
  | 53 => ⟨S32768, .i32⟩
  | 54 => ⟨S32768x1, .i32⟩
  | 55 => ⟨S1, .i32⟩
  | 56 => ⟨S_, .i32⟩
  | 57 => ⟨S32768x1, .i32⟩
  | 58 => ⟨S32768x1, .i1⟩
  | 59 => ⟨S1x1, .i32⟩
  | 60 => ⟨S32768x1, .i32⟩
  | 61 => ⟨S32768x1, .i1⟩
  | 62 => ⟨S32768x1, .i1⟩
  | 63 => ⟨S_, .i1⟩
  | 64 => ⟨S32768, .i1⟩
  | 65 => ⟨S32768x256, .f32⟩
  | 66 => ⟨S32768x256, .i1⟩
  | 67 => ⟨S_, .f32⟩
  | 68 => ⟨S32768x256, .f32⟩
  | 69 => ⟨S32768x256, .f32⟩
  | 70 => ⟨S32768x256, .f32⟩
  | 71 => ⟨S32768x256, .f32⟩
  | 72 => ⟨S32768x1, .i32⟩
  | 73 => ⟨S32768x1, .i32⟩
  | 74 => ⟨S32768x1, .i32⟩
  | 75 => ⟨S32768x1, .i32⟩
  | 76 => ⟨S32768x4, .i32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_4 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_call2_v0 : Ref sig .tc := ⟨.hbm, 72, rfl⟩
abbrev main_call2_cst : Ref sig .tc := ⟨.hbm, 73, rfl⟩
abbrev main_call2_c : Ref sig .tc := ⟨.hbm, 74, rfl⟩
abbrev main_call2_v1_0 : Ref sig .tc := ⟨.hbm, 75, rfl⟩
abbrev main_v37 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_cst_6 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_cst_7 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_cst_8 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_call4_v0 : Ref sig .tc := ⟨.hbm, 121, rfl⟩
abbrev main_call4_cst : Ref sig .tc := ⟨.hbm, 122, rfl⟩
abbrev main_call4_c : Ref sig .tc := ⟨.hbm, 123, rfl⟩
abbrev main_call4_v1_0 : Ref sig .tc := ⟨.hbm, 124, rfl⟩
abbrev main_v57 : Ref sig .tc := ⟨.hbm, 125, rfl⟩
abbrev main_call5_c : Ref sig .tc := ⟨.hbm, 126, rfl⟩
abbrev main_call5_v0 : Ref sig .tc := ⟨.hbm, 127, rfl⟩
abbrev main_call5_v1 : Ref sig .tc := ⟨.hbm, 128, rfl⟩
abbrev main_call5_c_0 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_v5 : Ref sig .tc := ⟨.hbm, 133, rfl⟩
abbrev main_call5_c_1 : Ref sig .tc := ⟨.hbm, 134, rfl⟩
abbrev main_call5_c_2 : Ref sig .tc := ⟨.hbm, 135, rfl⟩
abbrev main_call5_v6 : Ref sig .tc := ⟨.hbm, 136, rfl⟩
abbrev main_call5_v7 : Ref sig .tc := ⟨.hbm, 137, rfl⟩
abbrev main_call5_v8 : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_c_3 : Ref sig .tc := ⟨.hbm, 142, rfl⟩
abbrev main_call5_v12 : Ref sig .tc := ⟨.hbm, 143, rfl⟩
abbrev main_call5_v13 : Ref sig .tc := ⟨.hbm, 144, rfl⟩
abbrev main_call5_v14 : Ref sig .tc := ⟨.hbm, 145, rfl⟩
abbrev main_call5_cst : Ref sig .tc := ⟨.hbm, 146, rfl⟩
abbrev main_call5_v15 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_cst_9 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_cst_10 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_cst_11 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_call6_v0 : Ref sig .tc := ⟨.hbm, 170, rfl⟩
abbrev main_call6_cst : Ref sig .tc := ⟨.hbm, 171, rfl⟩
abbrev main_call6_c : Ref sig .tc := ⟨.hbm, 172, rfl⟩
abbrev main_call6_v1_0 : Ref sig .tc := ⟨.hbm, 173, rfl⟩
abbrev main_v77 : Ref sig .tc := ⟨.hbm, 174, rfl⟩
abbrev main_call7_c : Ref sig .tc := ⟨.hbm, 175, rfl⟩
abbrev main_call7_v0 : Ref sig .tc := ⟨.hbm, 176, rfl⟩
abbrev main_call7_v1 : Ref sig .tc := ⟨.hbm, 177, rfl⟩
abbrev main_call7_c_0 : Ref sig .tc := ⟨.hbm, 178, rfl⟩
abbrev main_call7_v2 : Ref sig .tc := ⟨.hbm, 179, rfl⟩
abbrev main_call7_v3 : Ref sig .tc := ⟨.hbm, 180, rfl⟩
abbrev main_call7_v4 : Ref sig .tc := ⟨.hbm, 181, rfl⟩
abbrev main_call7_v5 : Ref sig .tc := ⟨.hbm, 182, rfl⟩
abbrev main_call7_c_1 : Ref sig .tc := ⟨.hbm, 183, rfl⟩
abbrev main_call7_c_2 : Ref sig .tc := ⟨.hbm, 184, rfl⟩
abbrev main_call7_v6 : Ref sig .tc := ⟨.hbm, 185, rfl⟩
abbrev main_call7_v7 : Ref sig .tc := ⟨.hbm, 186, rfl⟩
abbrev main_call7_v8 : Ref sig .tc := ⟨.hbm, 187, rfl⟩
abbrev main_call7_v9 : Ref sig .tc := ⟨.hbm, 188, rfl⟩
abbrev main_call7_v10 : Ref sig .tc := ⟨.hbm, 189, rfl⟩
abbrev main_call7_v11 : Ref sig .tc := ⟨.hbm, 190, rfl⟩
abbrev main_call7_c_3 : Ref sig .tc := ⟨.hbm, 191, rfl⟩
abbrev main_call7_v12 : Ref sig .tc := ⟨.hbm, 192, rfl⟩
abbrev main_call7_v13 : Ref sig .tc := ⟨.hbm, 193, rfl⟩
abbrev main_call7_v14 : Ref sig .tc := ⟨.hbm, 194, rfl⟩
abbrev main_call7_cst : Ref sig .tc := ⟨.hbm, 195, rfl⟩
abbrev main_call7_v15 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_v84 : Ref sig .tc := ⟨.hbm, 203, rfl⟩
abbrev main_v85 : Ref sig .tc := ⟨.hbm, 204, rfl⟩

abbrev nD : Nat := 1
abbrev τ : Topo := Topo.v7x

variable {F : FTy → Type} [FloatOps F]
-- ==== Proof.Spec.lean ====
/-
  The residual quantisation of one row, over the extended reals, and the arithmetic that both programs' levels come to.

  `dist`, `firstMin`, `code` and `pick` are one level; `res`, `codeAt` and `total` run the levels in turn.
-/
module

public import Idealize.ShloMosaic.PureOps.Ideal
public import Idealize.ShloMosaic.PureOps.Ideal.Laws
public import Idealize.ShloMosaic.Lib.IdealHost

@[expose] public section

noncomputable section

namespace Cert.Proof.Spec

open Idealize.ShloMosaic

/-! ## One level -/

/-- The squared distance of a row `r` to the code `k` of a codebook, in the order `‖r‖² − 2 r·c + ‖c‖²`; `two` is the
    constant that both programs multiply by. -/
def dist (two : EReal) (r : Fin 256 → EReal) (cb : Fin 1024 → Fin 256 → EReal) (k : Fin 1024) : EReal :=
  (∑ d, r d * r d) - two * (∑ d, r d * cb k d) + ∑ d, cb k d * cb k d

/-- Some index attains the least value of a function on the codes. -/
theorem least_nonempty (f : Fin 1024 → EReal) : (Finset.univ.filter fun k => ∀ j, f k ≤ f j).Nonempty := by
  obtain ⟨k, -, hk⟩ := Finset.exists_min_image (Finset.univ : Finset (Fin 1024)) f Finset.univ_nonempty
  exact ⟨k, Finset.mem_filter.mpr ⟨Finset.mem_univ k, fun j => hk j (Finset.mem_univ j)⟩⟩

/-- The first index at which a function on the codes is least. -/
def firstMin (f : Fin 1024 → EReal) : Fin 1024 := (Finset.univ.filter fun k => ∀ j, f k ≤ f j).min' (least_nonempty f)

/-- The function is least at `firstMin`. -/
theorem firstMin_le (f : Fin 1024 → EReal) (j : Fin 1024) : f (firstMin f) ≤ f j :=
  (Finset.mem_filter.mp (Finset.min'_mem _ (least_nonempty f))).2 j

/-- `firstMin` is not above any index at which the function is least. -/
theorem firstMin_first (f : Fin 1024 → EReal) (k : Fin 1024) (h : ∀ j, f k ≤ f j) : firstMin f ≤ k :=
  Finset.min'_le _ _ (Finset.mem_filter.mpr ⟨Finset.mem_univ k, h⟩)

/-- An index at which the function is least, and which is not above any other such index, is `firstMin`. -/
theorem firstMin_unique (f : Fin 1024 → EReal) (k : Fin 1024) (h : ∀ j, f k ≤ f j) (h' : ∀ j, f k = f j → k ≤ j) :
    k = firstMin f :=
  le_antisymm (h' _ (le_antisymm (h _) (firstMin_le f k))) (firstMin_first f k h)

/-- The code of a row: the first nearest entry of the codebook. -/
def code (two : EReal) (r : Fin 256 → EReal) (cb : Fin 1024 → Fin 256 → EReal) : Fin 1024 := firstMin (dist two r cb)

/-- The codebook entry of that code. -/
def pick (two : EReal) (r : Fin 256 → EReal) (cb : Fin 1024 → Fin 256 → EReal) : Fin 256 → EReal := cb (code two r cb)

/-! ## The levels -/

/-- What is left of the row `x` before level `l`. -/
def res (two : EReal) (cbs : ℕ → Fin 1024 → Fin 256 → EReal) (x : Fin 256 → EReal) : ℕ → Fin 256 → EReal
  | 0 => x
  | l + 1 => fun d => res two cbs x l d - pick two (res two cbs x l) (cbs l) d

/-- The sum of the entries picked before level `l`. -/
def total (two : EReal) (cbs : ℕ → Fin 1024 → Fin 256 → EReal) (x : Fin 256 → EReal) : ℕ → Fin 256 → EReal
  | 0 => fun _ => 0
  | l + 1 => fun d => total two cbs x l d + pick two (res two cbs x l) (cbs l) d

/-- The code at level `l`. -/
def codeAt (two : EReal) (cbs : ℕ → Fin 1024 → Fin 256 → EReal) (x : Fin 256 → EReal) (l : ℕ) : Fin 1024 :=
  code two (res two cbs x l) (cbs l)

/-! ## Constants -/

/-- The pattern of two is the extended real two. -/
theorem ofBits_two : Ideal.ofBits .f32 0x40000000#32 = ((2 : ℝ) : EReal) := by
  simp [Ideal.ofBits, Ideal.ieee, -EReal.coe_mul]; norm_num

/-- The pattern of 1024 is the extended real 1024. -/
theorem ofBits_1024 : Ideal.ofBits .f32 0x44800000#32 = ((1024 : ℝ) : EReal) := by
  simp [Ideal.ofBits, Ideal.ieee, -EReal.coe_mul]; norm_num

/-- The pattern of infinity is the top of the extended reals. -/
theorem ofBits_inf : Ideal.ofBits .f32 0x7F800000#32 = ⊤ := by simp [Ideal.ofBits, Ideal.ieee]

/-! ## Sums -/

/-- A non-negative real factor moves into a finite sum. -/
theorem mul_sum_real (a : ℝ) (ha : 0 ≤ a) {ι : Type} (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (EReal.coe_nonneg.mpr ha) (EReal.coe_ne_top a) _ _

/-- The distance as the kernel takes it, the factor two inside the codebook and the product's operands exchanged. -/
theorem dist_kernel (r : Fin 256 → EReal) (cb : Fin 1024 → Fin 256 → EReal) (k : Fin 1024) :
    (∑ d, r d * r d) - (∑ d, (Ideal.ofBits .f32 0x40000000#32 * cb k d) * r d) + ∑ d, cb k d * cb k d
      = dist (Ideal.ofBits .f32 0x40000000#32) r cb k := by
  unfold dist
  rw [ofBits_two, mul_sum_real 2 (by norm_num)]
  congr 2
  exact Finset.sum_congr rfl fun d _ => by rw [mul_assoc, mul_comm (cb k d)]

/-! ## The kernel's search: a least value, a mask of indices, the least masked index -/

/-- The fold of `min` from the top is the value at `firstMin`. -/
theorem fold_min_eq (f : Fin 1024 → EReal) : Finset.fold min ⊤ f Finset.univ = f (firstMin f) := by
  refine le_antisymm ?_ ?_
  · exact (Finset.fold_min_le _).mpr (Or.inr ⟨firstMin f, Finset.mem_univ _, le_rfl⟩)
  · exact (Finset.le_fold_min _).mpr ⟨le_top, fun j _ => firstMin_le f j⟩

/-- The masked indices: the index where the function is least, 1024 elsewhere. -/
def masked (f : Fin 1024 → EReal) (k : Fin 1024) : EReal :=
  if f k = f (firstMin f) then (((k : ℕ) : ℝ) : EReal) else ((1024 : ℝ) : EReal)

/-- The masked index at `firstMin` is `firstMin` itself. -/
theorem masked_firstMin (f : Fin 1024 → EReal) : masked f (firstMin f) = (((firstMin f : ℕ) : ℝ) : EReal) := if_pos rfl

/-- The least masked index is `firstMin`. -/
theorem fold_masked (f : Fin 1024 → EReal) :
    Finset.fold min ⊤ (masked f) Finset.univ = (((firstMin f : ℕ) : ℝ) : EReal) := by
  refine le_antisymm ?_ ?_
  · exact (Finset.fold_min_le _).mpr (Or.inr ⟨firstMin f, Finset.mem_univ _, (masked_firstMin f).le⟩)
  · refine (Finset.le_fold_min _).mpr ⟨le_top, fun j _ => ?_⟩
    unfold masked
    split_ifs with h
    · have : firstMin f ≤ j := firstMin_first f j fun i => h.le.trans (firstMin_le f i)
      exact EReal.coe_le_coe_iff.mpr (by exact_mod_cast this)
    · exact EReal.coe_le_coe_iff.mpr (by exact_mod_cast (firstMin f).isLt.le)

/-- A masked index equals the least one exactly at `firstMin`. -/
theorem masked_eq_iff (f : Fin 1024 → EReal) (k : Fin 1024) :
    masked f k = (((firstMin f : ℕ) : ℝ) : EReal) ↔ k = firstMin f := by
  constructor
  · intro h
    unfold masked at h
    split_ifs at h with h'
    · exact Fin.ext (by exact_mod_cast EReal.coe_eq_coe_iff.mp h)
    · have h2 : (1024 : ℝ) = ((firstMin f : ℕ) : ℝ) := EReal.coe_eq_coe_iff.mp h
      have h3 : (1024 : ℕ) = (firstMin f : ℕ) := by exact_mod_cast h2
      have := (firstMin f).isLt
      omega
  · rintro rfl; exact masked_firstMin f

/-- The integer of a masked index read back as a word. -/
theorem fptosi_nat (k : Fin 1024) : Ideal.fptosi 32 (((k : ℕ) : ℝ) : EReal) = BitVec.ofNat 32 k := by
  have hk := k.isLt
  rw [Ideal.fptosi, Ideal.toIntClamped_coe, if_pos (Nat.cast_nonneg _), Int.floor_natCast,
    min_eq_right (by norm_num; omega), max_eq_right (by norm_num)]
  rfl

/-- An index's word, converted to a float, is the index. -/
theorem toInt_ofNat (k : Fin 1024) : (BitVec.ofNat 32 (k : ℕ)).toInt = ((k : ℕ) : ℤ) := by
  have hk := k.isLt
  rw [BitVec.toInt_eq_toNat_of_lt (by rw [BitVec.toNat_ofNat]; omega), BitVec.toNat_ofNat, Nat.mod_eq_of_lt (by omega)]

/-- A product with a one-hot vector picks one entry, whatever the others are. -/
theorem sum_onehot (p : Fin 1024 → EReal) (c : Fin 1024) : ∑ k, p k * (if k = c then 1 else 0) = p c := by
  rw [Finset.sum_eq_single c (fun k _ h => by rw [if_neg h, mul_zero]) (fun h => absurd (Finset.mem_univ c) h),
    if_pos rfl, mul_one]

end Cert.Proof.Spec

end
-- ==== Proof.Level.lean ====
/-
  The kernel's levels at one index. A level takes the residual tile (transposed: a column is a row of the input), the
  doubled codebook, the norms spread over the tile and the three stacked planes; the lemmas read each value the kernel
  names at a column `b`, in the terms of the specification.
-/
module

public import proofs.«01_k».proof.Proof.Spec
public import proofs.«01_k».proof.Proof.Gen.KernelIdeal.Skeleton
public import Idealize.ShloMosaic.Lib.Claim
public import Idealize.ShloMosaic.Lib.Pointwise

@[expose] public section

set_option maxRecDepth 16384

noncomputable section

namespace Cert.Proof.Level

open Idealize.ShloMosaic Idealize.SL.Sem Cert.KernelIdeal Cert.KernelIdeal.Gen Cert.Proof.Spec

attribute [local instance] Cert.KernelIdeal.Gen.facts

/-- The constant both programs double with. -/
abbrev two : EReal := Ideal.ofBits .f32 0x40000000#32

/-- What one level reads, of the codebook `cb`: the doubled codebook `c`, the squared norms `n` (the same in every column)
    and the planes `p`, the codebook transposed above rows of zeros. -/
structure Reads (c : Vec Ideal S1x1024x256 .f32) (n : Vec Ideal S1x1024x1024 .f32) (p : Vec Ideal S1x768x1024 .bf16)
    (cb : Fin 1024 → Fin 256 → EReal) : Prop where
  cb2 : ∀ k d, c (ix3 0 k d) = two * cb k d
  norm : ∀ k b, n (ix3 0 k b) = ∑ d, cb k d * cb k d
  plane : ∀ (d : Fin 768) k, p (ix3 0 d k) = if h : (d : ℕ) < 256 then cb k ⟨d, h⟩ else 0

/-- The mask a level makes of its distances, in the specification's words. -/
theorem mask_form (f : Fin 1024 → EReal) (k : Fin 1024) :
    (if f k = Finset.fold min (Ideal.ofBits FTy.f32 2139095040#32) f Finset.univ
      then (FloatOps.sitofp (F := Ideal) FTy.f32 (BitVec.ofNat 32 (k : ℕ)) : EReal) else Ideal.ofBits FTy.f32 1149239296#32)
      = masked f k := by
  rw [ofBits_inf, fold_min_eq, ofBits_1024]
  unfold masked
  have : (FloatOps.sitofp (F := Ideal) FTy.f32 (BitVec.ofNat 32 (k : ℕ)) : EReal) = (((k : ℕ) : ℝ) : EReal) := by
    show (((BitVec.ofNat 32 (k : ℕ)).toInt : ℝ) : EReal) = _
    rw [toInt_ofNat]; norm_num
  rw [this]

/-- The one-hot weight a level gives the index `k`. -/
theorem hot_form (f : Fin 1024 → EReal) (k : Fin 1024) :
    (FloatOps.sitofp (F := Ideal) FTy.f32 (BitVec.setWidth 32 (BitVec.ofBool
      (decide (masked f k = (((firstMin f : ℕ) : ℝ) : EReal))))) : EReal) = if k = firstMin f then 1 else 0 := by
  show (((BitVec.setWidth 32 (BitVec.ofBool (decide (masked f k = (((firstMin f : ℕ) : ℝ) : EReal))))).toInt : ℝ) : EReal) = _
  by_cases h : k = firstMin f
  · rw [if_pos h, decide_eq_true ((masked_eq_iff f k).mpr h),
      show (BitVec.setWidth 32 (BitVec.ofBool true)).toInt = 1 from by decide]; norm_num
  · rw [if_neg h, decide_eq_false (fun hh => h ((masked_eq_iff f k).mp hh)),
      show (BitVec.setWidth 32 (BitVec.ofBool false)).toInt = 0 from by decide]; norm_num

/-- The mask of a level whose distances are the kernel's spelling of the specification's. -/
theorem mask_of (r : Fin 256 → EReal) (cb : Fin 1024 → Fin 256 → EReal) (f : Fin 1024 → EReal) (k : Fin 1024)
    (hf : ∀ k, f k = (∑ d, r d * r d) - (∑ d, (two * cb k d) * r d) + ∑ d, cb k d * cb k d) :
    (if f k = Finset.fold min (Ideal.ofBits FTy.f32 2139095040#32) f Finset.univ
      then (FloatOps.sitofp (F := Ideal) FTy.f32 (BitVec.ofNat 32 (k : ℕ)) : EReal) else Ideal.ofBits FTy.f32 1149239296#32)
      = masked (dist two r cb) k := by
  have : f = dist two r cb := funext fun k => (hf k).trans (dist_kernel r cb k)
  rw [mask_form, this]

/-- A plane's product with a level's one-hot weights: the plane's entry at the code. -/
theorem plane_form (f : Fin 1024 → EReal) (p : Fin 1024 → EReal) :
    ∑ k, p k * (FloatOps.sitofp (F := Ideal) FTy.f32 (BitVec.setWidth 32 (BitVec.ofBool
      (decide (masked f k = (((firstMin f : ℕ) : ℝ) : EReal))))) : EReal) = p (firstMin f) := by
  simp only [hot_form]
  exact sum_onehot p (firstMin f)

/-- The three planes' entries add to the codebook's. -/
theorem planes_sum {c n p cb} (H : Reads c n p cb) (d : Fin 256) (k : Fin 1024) (h0 h1 h2) :
    p (ix3 0 ⟨d, h0⟩ k) + (p (ix3 0 ⟨256 + d, h1⟩ k) + p (ix3 0 ⟨512 + d, h2⟩ k)) = cb k d := by
  have hd := d.isLt
  rw [H.plane, H.plane, H.plane, dif_pos hd, dif_neg (by show ¬ (256 + (d : ℕ) < 256); omega),
    dif_neg (by show ¬ (512 + (d : ℕ) < 256); omega), add_zero, add_zero]

/-- The entry a level picks, as the kernel takes it: three products with the one-hot weights, added. -/
theorem pick_form {c n p cb} (H : Reads c n p cb) (r : Fin 256 → EReal) (d : Fin 256) (h0 h1 h2) :
    (∑ k, p (ix3 0 ⟨d, h0⟩ k) * (FloatOps.sitofp (F := Ideal) FTy.f32 (BitVec.setWidth 32 (BitVec.ofBool
        (decide (masked (dist two r cb) k = (((code two r cb : ℕ) : ℝ) : EReal))))) : EReal))
      + ((∑ k, p (ix3 0 ⟨256 + d, h1⟩ k) * (FloatOps.sitofp (F := Ideal) FTy.f32 (BitVec.setWidth 32 (BitVec.ofBool
          (decide (masked (dist two r cb) k = (((code two r cb : ℕ) : ℝ) : EReal))))) : EReal))
        + ∑ k, p (ix3 0 ⟨512 + d, h2⟩ k) * (FloatOps.sitofp (F := Ideal) FTy.f32 (BitVec.setWidth 32 (BitVec.ofBool
          (decide (masked (dist two r cb) k = (((code two r cb : ℕ) : ℝ) : EReal))))) : EReal))
      = pick two r cb d := by
  unfold code
  rw [plane_form (dist two r cb) fun k => p (ix3 0 ⟨d, h0⟩ k), plane_form (dist two r cb) fun k => p (ix3 0 ⟨256 + d, h1⟩ k),
    plane_form (dist two r cb) fun k => p (ix3 0 ⟨512 + d, h2⟩ k)]
  exact planes_sum H d _ h0 h1 h2

/-! ## Level 0 -/

section

variable (x : Vec Ideal S1024x256 .f32) (c : Vec Ideal S1x1024x256 .f32) (n : Vec Ideal S1x1024x1024 .f32) (p : Vec Ideal S1x768x1024 .bf16)
  (cb : Fin 1024 → Fin 256 → EReal) (H : Reads c n p cb) (b : Fin 1024) (r : Fin 256 → EReal)
  (hr : ∀ d : Fin 256, k0_pay5 x (ix2 d b) = r d)

include H hr

/-- Level 0's masked indices. -/
theorem mask0 (k : Fin 1024) : k0_pay8 x c n (ix2 k b) = masked (dist two r cb) k := by
  pointwise [k0_pay8, k0_pay7]
  simp only [hr, H.cb2, H.norm]
  exact mask_of r cb _ k fun _ => rfl

/-- Level 0's code, as a float. -/
theorem codef0 : k0_pay9 x c n (ix1 b) = (((code two r cb : ℕ) : ℝ) : EReal) := by
  pointwise [k0_pay9]
  simp only [mask0 x c n p cb H b r hr, ofBits_inf]
  exact fold_masked (dist two r cb)

/-- Level 0's code. -/
theorem code0 : k0_pay15 (k0_pay10 x c n) (ix2 0 b) = BitVec.ofNat 32 (code two r cb) := by
  pointwise [k0_pay15, k0_pay10]
  exact (congrArg (Ideal.fptosi 32) (codef0 x c n p cb H b r hr)).trans (fptosi_nat _)

/-- Level 0's entry. -/
theorem pick0 (d : Fin 256) :
    k0_pay14 (k0_pay11 x c n p) (k0_pay12 x c n p) (k0_pay13 x c n p) (ix2 d b) = pick two r cb d := by
  pointwise [k0_pay14, k0_pay12, k0_pay13, k0_pay11]
  simp only [mask0 x c n p cb H b r hr, codef0 x c n p cb H b r hr]
  exact pick_form H r d _ _ _

end

/-! ## Level 1 -/

section

variable (v4 : FVec Ideal S256x1024 .f32) (v35 : FVec Ideal S768x1024 .f32) (v36 v37 : FVec Ideal S256x1024 .f32) (c : Vec Ideal S1x1024x256 .f32) (n : Vec Ideal S1x1024x1024 .f32) (p : Vec Ideal S1x768x1024 .bf16)
  (cb : Fin 1024 → Fin 256 → EReal) (H : Reads c n p cb) (b : Fin 1024) (r : Fin 256 → EReal)
  (hr : ∀ d : Fin 256, k0_pay17 v4 v35 v36 v37 (ix2 d b) = r d)

include H hr

/-- Level 1's masked indices. -/
theorem mask1 (k : Fin 1024) : k0_pay18 v4 (k0_pay7 (F := Ideal)) v35 v36 v37 c n (ix2 k b) = masked (dist two r cb) k := by
  pointwise [k0_pay18, k0_pay7]
  simp only [hr, H.cb2, H.norm]
  exact mask_of r cb _ k fun _ => rfl

/-- Level 1's code, as a float. -/
theorem codef1 : k0_pay19 v4 (k0_pay7 (F := Ideal)) v35 v36 v37 c n (ix1 b) = (((code two r cb : ℕ) : ℝ) : EReal) := by
  pointwise [k0_pay19]
  simp only [mask1 v4 v35 v36 v37 c n p cb H b r hr, ofBits_inf]
  exact fold_masked (dist two r cb)

/-- Level 1's code. -/
theorem code1 : k0_pay22 (k0_pay20 v4 (k0_pay7 (F := Ideal)) v35 v36 v37 c n) (ix2 0 b) = BitVec.ofNat 32 (code two r cb) := by
  pointwise [k0_pay22, k0_pay20]
  exact (congrArg (Ideal.fptosi 32) (codef1 v4 v35 v36 v37 c n p cb H b r hr)).trans (fptosi_nat _)

/-- Level 1's entry. -/
theorem pick1 (d : Fin 256) : k0_pay21 v4 (k0_pay7 (F := Ideal)) v35 v36 v37 c n p (ix2 d b) = pick two r cb d := by
  pointwise [k0_pay21]
  simp only [mask1 v4 v35 v36 v37 c n p cb H b r hr, codef1 v4 v35 v36 v37 c n p cb H b r hr]
  exact pick_form H r d _ _ _

end

/-! ## Level 2 -/

section

variable (v45 v78 : FVec Ideal S256x1024 .f32) (c : Vec Ideal S1x1024x256 .f32) (n : Vec Ideal S1x1024x1024 .f32) (p : Vec Ideal S1x768x1024 .bf16)
  (cb : Fin 1024 → Fin 256 → EReal) (H : Reads c n p cb) (b : Fin 1024) (r : Fin 256 → EReal)
  (hr : ∀ d : Fin 256, k0_pay24 v45 v78 (ix2 d b) = r d)

include H hr

/-- Level 2's masked indices. -/
theorem mask2 (k : Fin 1024) : k0_pay25 (k0_pay7 (F := Ideal)) v45 v78 c n (ix2 k b) = masked (dist two r cb) k := by
  pointwise [k0_pay25, k0_pay7]
  simp only [hr, H.cb2, H.norm]
  exact mask_of r cb _ k fun _ => rfl

/-- Level 2's code, as a float. -/
theorem codef2 : k0_pay26 (k0_pay7 (F := Ideal)) v45 v78 c n (ix1 b) = (((code two r cb : ℕ) : ℝ) : EReal) := by
  pointwise [k0_pay26]
  simp only [mask2 v45 v78 c n p cb H b r hr, ofBits_inf]
  exact fold_masked (dist two r cb)

/-- Level 2's code. -/
theorem code2 : k0_pay28 (k0_pay7 (F := Ideal)) v45 v78 c n (ix2 0 b) = BitVec.ofNat 32 (code two r cb) := by
  pointwise [k0_pay28]
  exact (congrArg (Ideal.fptosi 32) (codef2 v45 v78 c n p cb H b r hr)).trans (fptosi_nat _)

/-- Level 2's entry. -/
theorem pick2 (d : Fin 256) : k0_pay27 (k0_pay7 (F := Ideal)) v45 v78 c n p (ix2 d b) = pick two r cb d := by
  pointwise [k0_pay27]
  simp only [mask2 v45 v78 c n p cb H b r hr, codef2 v45 v78 c n p cb H b r hr]
  exact pick_form H r d _ _ _

end

/-! ## Level 3 -/

section

variable (v83 v116 : FVec Ideal S256x1024 .f32) (c : Vec Ideal S1x1024x256 .f32) (n : Vec Ideal S1x1024x1024 .f32) (p : Vec Ideal S1x768x1024 .bf16)
  (cb : Fin 1024 → Fin 256 → EReal) (H : Reads c n p cb) (b : Fin 1024) (r : Fin 256 → EReal)
  (hr : ∀ d : Fin 256, v83 (ix2 d b) - v116 (ix2 d b) = r d)

include H hr

/-- Level 3's masked indices. -/
theorem mask3 (k : Fin 1024) : k0_pay29 (k0_pay7 (F := Ideal)) v83 v116 c n (ix2 k b) = masked (dist two r cb) k := by
  pointwise [k0_pay29, k0_pay7]
  simp only [hr, H.cb2, H.norm]
  exact mask_of r cb _ k fun _ => rfl

/-- Level 3's code, as a float. -/
theorem codef3 : k0_pay30 (k0_pay7 (F := Ideal)) v83 v116 c n (ix1 b) = (((code two r cb : ℕ) : ℝ) : EReal) := by
  pointwise [k0_pay30]
  simp only [mask3 v83 v116 c n p cb H b r hr, ofBits_inf]
  exact fold_masked (dist two r cb)

/-- Level 3's code. -/
theorem code3 : k0_pay31 (k0_pay7 (F := Ideal)) v83 v116 c n (ix2 0 b) = BitVec.ofNat 32 (code two r cb) := by
  pointwise [k0_pay31]
  exact (congrArg (Ideal.fptosi 32) (codef3 v83 v116 c n p cb H b r hr)).trans (fptosi_nat _)

/-- The sum of the entries after level 3. -/
theorem sum3 (v82 : FVec Ideal S256x1024 .f32) (d : Fin 256) :
    k0_pay32 (k0_pay7 (F := Ideal)) v82 v83 v116 c n p (ix2 b d) = v82 (ix2 d b) + v116 (ix2 d b) + pick two r cb d := by
  pointwise [k0_pay32]
  simp only [mask3 v83 v116 c n p cb H b r hr, codef3 v83 v116 c n p cb H b r hr]
  exact congrArg (v82 (ix2 d b) + v116 (ix2 d b) + ·) (pick_form H r d _ _ _)

end

/-! ## The levels in turn -/

section

variable (x : Vec Ideal S1024x256 .f32) (c0 c1 c2 c3 : Vec Ideal S1x1024x256 .f32) (n0 n1 n2 n3 : Vec Ideal S1x1024x1024 .f32)
  (p0 p1 p2 p3 : Vec Ideal S1x768x1024 .bf16) (cbs : ℕ → Fin 1024 → Fin 256 → EReal)

/-- A row of the tile. -/
abbrev row (b : Fin 1024) : Fin 256 → EReal := fun d => x (ix2 b d)

/-- What is left of the tile before level 1. -/
abbrev left1 : FVec Ideal S256x1024 .f32 :=
  k0_pay17 (k0_pay5 x) (k0_pay11 x c0 n0 p0) (k0_pay12 x c0 n0 p0) (k0_pay13 x c0 n0 p0)

/-- The sum before level 1. -/
abbrev acc1 : FVec Ideal S256x1024 .f32 :=
  k0_pay16 (k0_pay6 (F := Ideal)) (k0_pay11 x c0 n0 p0) (k0_pay12 x c0 n0 p0) (k0_pay13 x c0 n0 p0)

/-- The entries of level 1. -/
abbrev entry1 : FVec Ideal S256x1024 .f32 :=
  k0_pay21 (k0_pay5 x) (k0_pay7 (F := Ideal)) (k0_pay11 x c0 n0 p0) (k0_pay12 x c0 n0 p0) (k0_pay13 x c0 n0 p0) c1 n1 p1

/-- What is left of the tile before level 2. -/
abbrev left2 : FVec Ideal S256x1024 .f32 := k0_pay24 (left1 x c0 n0 p0) (entry1 x c0 c1 n0 n1 p0 p1)

/-- The sum before level 2. -/
abbrev acc2 : FVec Ideal S256x1024 .f32 := k0_pay23 (acc1 x c0 n0 p0) (entry1 x c0 c1 n0 n1 p0 p1)

/-- The entries of level 2. -/
abbrev entry2 : FVec Ideal S256x1024 .f32 :=
  k0_pay27 (k0_pay7 (F := Ideal)) (left1 x c0 n0 p0) (entry1 x c0 c1 n0 n1 p0 p1) c2 n2 p2

variable (H0 : Reads c0 n0 p0 (cbs 0)) (H1 : Reads c1 n1 p1 (cbs 1)) (H2 : Reads c2 n2 p2 (cbs 2)) (H3 : Reads c3 n3 p3 (cbs 3))
  (b : Fin 1024)

/-- A column of the transposed tile is a row of the tile. -/
theorem col0 (d : Fin 256) : k0_pay5 x (ix2 d b) = res two cbs (row x b) 0 d := by
  pointwise [k0_pay5]
  rfl

include H0

/-- The code stored at level 0. -/
theorem tile_code0 : k0_pay15 (k0_pay10 x c0 n0) (ix2 0 b) = BitVec.ofNat 32 (codeAt two cbs (row x b) 0) :=
  code0 x c0 n0 p0 _ H0 b _ (col0 x cbs b)

/-- The residual before level 1. -/
theorem left1_at (d : Fin 256) : left1 x c0 n0 p0 (ix2 d b) = res two cbs (row x b) 1 d := by
  have h := pick0 x c0 n0 p0 _ H0 b _ (col0 x cbs b) d
  have e : left1 x c0 n0 p0 (ix2 d b) = k0_pay5 x (ix2 d b)
      - k0_pay14 (k0_pay11 x c0 n0 p0) (k0_pay12 x c0 n0 p0) (k0_pay13 x c0 n0 p0) (ix2 d b) := rfl
  rw [e, h, col0 x cbs b]
  rfl

/-- The sum before level 1. -/
theorem acc1_at (d : Fin 256) : acc1 x c0 n0 p0 (ix2 d b) = total two cbs (row x b) 1 d := by
  have h := pick0 x c0 n0 p0 _ H0 b _ (col0 x cbs b) d
  have e : acc1 x c0 n0 p0 (ix2 d b) = k0_pay6 (F := Ideal) (ix2 d b)
      + k0_pay14 (k0_pay11 x c0 n0 p0) (k0_pay12 x c0 n0 p0) (k0_pay13 x c0 n0 p0) (ix2 d b) := rfl
  have z : k0_pay6 (F := Ideal) (ix2 d b) = (0 : EReal) := by pointwise [k0_pay6]
  rw [e, h, z]
  rfl

include H1

/-- The code stored at level 1. -/
theorem tile_code1 : k0_pay22 (k0_pay20 (k0_pay5 x) (k0_pay7 (F := Ideal)) (k0_pay11 x c0 n0 p0) (k0_pay12 x c0 n0 p0)
    (k0_pay13 x c0 n0 p0) c1 n1) (ix2 0 b) = BitVec.ofNat 32 (codeAt two cbs (row x b) 1) :=
  code1 _ _ _ _ c1 n1 p1 _ H1 b _ (left1_at x c0 n0 p0 cbs H0 b)

/-- The entry of level 1. -/
theorem entry1_at (d : Fin 256) :
    entry1 x c0 c1 n0 n1 p0 p1 (ix2 d b) = pick two (res two cbs (row x b) 1) (cbs 1) d :=
  pick1 _ _ _ _ c1 n1 p1 _ H1 b _ (left1_at x c0 n0 p0 cbs H0 b) d

/-- The residual before level 2. -/
theorem left2_at (d : Fin 256) : left2 x c0 c1 n0 n1 p0 p1 (ix2 d b) = res two cbs (row x b) 2 d := by
  have e : left2 x c0 c1 n0 n1 p0 p1 (ix2 d b)
      = left1 x c0 n0 p0 (ix2 d b) - entry1 x c0 c1 n0 n1 p0 p1 (ix2 d b) := rfl
  rw [e, left1_at x c0 n0 p0 cbs H0 b, entry1_at x c0 c1 n0 n1 p0 p1 cbs H0 H1 b]
  rfl

/-- The sum before level 2. -/
theorem acc2_at (d : Fin 256) : acc2 x c0 c1 n0 n1 p0 p1 (ix2 d b) = total two cbs (row x b) 2 d := by
  have e : acc2 x c0 c1 n0 n1 p0 p1 (ix2 d b)
      = acc1 x c0 n0 p0 (ix2 d b) + entry1 x c0 c1 n0 n1 p0 p1 (ix2 d b) := rfl
  rw [e, acc1_at x c0 n0 p0 cbs H0 b, entry1_at x c0 c1 n0 n1 p0 p1 cbs H0 H1 b]
  rfl

include H2

/-- The code stored at level 2. -/
theorem tile_code2 : k0_pay28 (k0_pay7 (F := Ideal)) (left1 x c0 n0 p0) (entry1 x c0 c1 n0 n1 p0 p1) c2 n2 (ix2 0 b)
    = BitVec.ofNat 32 (codeAt two cbs (row x b) 2) :=
  code2 _ _ c2 n2 p2 _ H2 b _ (left2_at x c0 c1 n0 n1 p0 p1 cbs H0 H1 b)

/-- The entry of level 2. -/
theorem entry2_at (d : Fin 256) :
    entry2 x c0 c1 c2 n0 n1 n2 p0 p1 p2 (ix2 d b) = pick two (res two cbs (row x b) 2) (cbs 2) d :=
  pick2 _ _ c2 n2 p2 _ H2 b _ (left2_at x c0 c1 n0 n1 p0 p1 cbs H0 H1 b) d

/-- The residual before level 3. -/
theorem left3_at (d : Fin 256) :
    left2 x c0 c1 n0 n1 p0 p1 (ix2 d b) - entry2 x c0 c1 c2 n0 n1 n2 p0 p1 p2 (ix2 d b) = res two cbs (row x b) 3 d := by
  rw [left2_at x c0 c1 n0 n1 p0 p1 cbs H0 H1 b, entry2_at x c0 c1 c2 n0 n1 n2 p0 p1 p2 cbs H0 H1 H2 b]
  rfl

include H3

/-- The code stored at level 3. -/
theorem tile_code3 : k0_pay31 (k0_pay7 (F := Ideal)) (left2 x c0 c1 n0 n1 p0 p1) (entry2 x c0 c1 c2 n0 n1 n2 p0 p1 p2) c3 n3
    (ix2 0 b) = BitVec.ofNat 32 (codeAt two cbs (row x b) 3) :=
  code3 _ _ c3 n3 p3 _ H3 b _ (left3_at x c0 c1 c2 n0 n1 n2 p0 p1 p2 cbs H0 H1 H2 b)

/-- The block of sums the kernel stores. -/
theorem tile_sum (d : Fin 256) : k0_pay32 (k0_pay7 (F := Ideal)) (acc2 x c0 c1 n0 n1 p0 p1) (left2 x c0 c1 n0 n1 p0 p1)
    (entry2 x c0 c1 c2 n0 n1 n2 p0 p1 p2) c3 n3 p3 (ix2 b d) = total two cbs (row x b) 4 d := by
  rw [sum3 _ _ c3 n3 p3 _ H3 b _ (left3_at x c0 c1 c2 n0 n1 n2 p0 p1 p2 cbs H0 H1 H2 b),
    acc2_at x c0 c1 n0 n1 p0 p1 cbs H0 H1 b, entry2_at x c0 c1 c2 n0 n1 n2 p0 p1 p2 cbs H0 H1 H2 b]
  rfl

end

end Cert.Proof.Level

end
-- ==== Proof.Blocks.lean ====
/-
  The blocks the kernel leaves at a grid point: the codes and the sums of the rows of its tile, and the norms in the scratch
  that the first point fills and the others keep.
-/
module

public import proofs.«01_k».proof.Proof.Gen.KernelIdeal.Frame
public import proofs.«01_k».proof.Proof.Level
public import Idealize.ShloMosaic.Lib.Pipeline.ValueKit
public import Idealize.ShloMosaic.Lib.Pipeline.ReadBack

@[expose] public section

set_option maxRecDepth 16384

noncomputable section

namespace Cert.Proof.Blocks

open Idealize.ShloMosaic Idealize.SL.Sem Cert.KernelIdeal Cert.KernelIdeal.Gen Cert.Proof.Spec Cert.Proof.Level
open Idealize.ShloMosaic.TcCoe

attribute [local instance] Cert.KernelIdeal.Gen.facts

/-! ## One level's slice of a block -/

/-- A level's slice of the doubled codebooks. -/
theorem ld_cb (x : Vec Ideal S4x1024x256 .f32) (l : ℕ) (hl : l < 4) (inb) (k : Fin 1024) (d : Fin 256) :
    View.ld x (Rect.unit (s := S4x1024x256) ![l, 0, 0] ![1, 1024, 256] inb) (ix3 0 k d) = x (ix3 ⟨l, hl⟩ k d) := by
  refine congrArg x (funext fun a => Fin.ext ?_)
  match a with
  | ⟨0, _⟩ => exact (show l + 1 * 0 = l by omega)
  | ⟨1, _⟩ => exact (show 0 + 1 * (k : ℕ) = k by omega)
  | ⟨2, _⟩ => exact (show 0 + 1 * (d : ℕ) = d by omega)

/-- A level's slice of the spread norms. -/
theorem ld_norm (x : Vec Ideal S4x1024x1024 .f32) (l : ℕ) (hl : l < 4) (inb) (k b : Fin 1024) :
    View.ld x (Rect.unit (s := S4x1024x1024) ![l, 0, 0] ![1, 1024, 1024] inb) (ix3 0 k b) = x (ix3 ⟨l, hl⟩ k b) := by
  refine congrArg x (funext fun a => Fin.ext ?_)
  match a with
  | ⟨0, _⟩ => exact (show l + 1 * 0 = l by omega)
  | ⟨1, _⟩ => exact (show 0 + 1 * (k : ℕ) = k by omega)
  | ⟨2, _⟩ => exact (show 0 + 1 * (b : ℕ) = b by omega)

/-- A level's slice of the planes. -/
theorem ld_plane (x : Vec Ideal S4x768x1024 .bf16) (l : ℕ) (hl : l < 4) (inb) (d : Fin 768) (k : Fin 1024) :
    View.ld x (Rect.unit (s := S4x768x1024) ![l, 0, 0] ![1, 768, 1024] inb) (ix3 0 d k) = x (ix3 ⟨l, hl⟩ d k) := by
  refine congrArg x (funext fun a => Fin.ext ?_)
  match a with
  | ⟨0, _⟩ => exact (show l + 1 * 0 = l by omega)
  | ⟨1, _⟩ => exact (show 0 + 1 * (d : ℕ) = d by omega)
  | ⟨2, _⟩ => exact (show 0 + 1 * (k : ℕ) = k by omega)

/-- A level's slice of the norms. -/
theorem ld_cbn (x : Vec Ideal S4x1024 .f32) (l : ℕ) (hl : l < 4) (inb) (k : Fin 1024) :
    View.ld x (Rect.unit (s := S4x1024) ![l, 0] ![1, 1024] inb) (ix2 0 k) = x (ix2 ⟨l, hl⟩ k) := by
  refine congrArg x (funext fun a => Fin.ext ?_)
  match a with
  | ⟨0, _⟩ => exact (show l + 1 * 0 = l by omega)
  | ⟨1, _⟩ => exact (show 0 + 1 * (k : ℕ) = k by omega)

/-- What the constant windows hold, of the codebooks `cbs`. -/
structure Whole (x1 : Vec Ideal S4x1024x256 .f32) (x2 : Vec Ideal S4x768x1024 .bf16) (x3 : Vec Ideal S4x1024 .f32)
    (cbs : ℕ → Fin 1024 → Fin 256 → EReal) : Prop where
  cb2 : ∀ (l : Fin 4) k d, x1 (ix3 l k d) = two * cbs l k d
  plane : ∀ (l : Fin 4) (d : Fin 768) k, x2 (ix3 l d k) = if h : (d : ℕ) < 256 then cbs l k ⟨d, h⟩ else 0
  norm : ∀ (l : Fin 4) k, x3 (ix2 l k) = ∑ d, cbs l k d * cbs l k d

/-- The norms spread over a tile. -/
def Spread (xs : Vec Ideal S4x1024x1024 .f32) (cbs : ℕ → Fin 1024 → Fin 256 → EReal) : Prop :=
  ∀ (l : Fin 4) k b, xs (ix3 l k b) = ∑ d, cbs l k d * cbs l k d

/-- What a level reads at a point that keeps the scratch. -/
theorem reads_kept {x1 x2 x3 xs cbs} (H : Whole x1 x2 x3 cbs) (S : Spread xs cbs) (l : ℕ) (hl : l < 4) (i1 i2 i3) :
    Reads (View.ld x1 (Rect.unit (s := S4x1024x256) ![l, 0, 0] ![1, 1024, 256] i1))
      (View.ld xs (Rect.unit (s := S4x1024x1024) ![l, 0, 0] ![1, 1024, 1024] i2))
      (View.ld x2 (Rect.unit (s := S4x768x1024) ![l, 0, 0] ![1, 768, 1024] i3)) (cbs l) where
  cb2 k d := (ld_cb x1 l hl i1 k d).trans (H.cb2 ⟨l, hl⟩ k d)
  norm k b := (ld_norm xs l hl i2 k b).trans (S ⟨l, hl⟩ k b)
  plane d k := (ld_plane x2 l hl i3 d k).trans (H.plane ⟨l, hl⟩ d k)

/-- A filled row of the scratch repeats the norms. -/
theorem fill1 (v : Vec Ideal S1x1024 .f32) (k b : Fin 1024) : k0_pay1 v (ix3 0 k b) = v (ix2 0 k) := by pointwise [k0_pay1]
theorem fill2 (v : Vec Ideal S1x1024 .f32) (k b : Fin 1024) : k0_pay2 v (ix3 0 k b) = v (ix2 0 k) := by pointwise [k0_pay2]
theorem fill3 (v : Vec Ideal S1x1024 .f32) (k b : Fin 1024) : k0_pay3 v (ix3 0 k b) = v (ix2 0 k) := by pointwise [k0_pay3]
theorem fill4 (v : Vec Ideal S1x1024 .f32) (k b : Fin 1024) : k0_pay4 v (ix3 0 k b) = v (ix2 0 k) := by pointwise [k0_pay4]

/-- What a level reads at the point that fills the scratch, whose fill of that level is `f`. -/
theorem reads_filled {x1 x2 x3 cbs} (H : Whole x1 x2 x3 cbs) (l : ℕ) (hl : l < 4)
    (f : Vec Ideal S1x1024 .f32 → FVec Ideal S1x1024x1024 .f32) (hf : ∀ v k b, f v (ix3 0 k b) = v (ix2 0 k)) (i1 i2 i3) :
    Reads (View.ld x1 (Rect.unit (s := S4x1024x256) ![l, 0, 0] ![1, 1024, 256] i1))
      (f (View.ld x3 (Rect.unit (s := S4x1024) ![l, 0] ![1, 1024] i2)))
      (View.ld x2 (Rect.unit (s := S4x768x1024) ![l, 0, 0] ![1, 768, 1024] i3)) (cbs l) where
  cb2 k d := (ld_cb x1 l hl i1 k d).trans (H.cb2 ⟨l, hl⟩ k d)
  norm k b := (hf _ k b).trans ((ld_cbn x3 l hl i2 k).trans (H.norm ⟨l, hl⟩ k))
  plane d k := (ld_plane x2 l hl i3 d k).trans (H.plane ⟨l, hl⟩ d k)

/-! ## Placing a piece -/

/-- A stored row of codes, placed in the block of codes. -/
theorem place_code (x0 : Vec Ideal S1024x256 .f32) (cbs : ℕ → Fin 1024 → Fin 256 → EReal) (l : ℕ) (v : IVec S1x1024 32)
    (hv : ∀ b, v (ix2 0 b) = BitVec.ofNat 32 (codeAt two cbs (row x0 b) l)) (x : S1x1024.Idx) (y : S4x1024.Idx)
    (h0 : (y 0 : ℕ) = l) (h1 : (y 1 : ℕ) = x 1) :
    v x = BitVec.ofNat 32 (codeAt two cbs (row x0 (y 1)) (y 0 : ℕ)) := by
  have hx : x = ix2 0 (x 1) := by blk_ext
  have hy : (y 1 : Fin 1024) = x 1 := Fin.ext h1
  rw [hx, h0, hy]
  exact hv (x 1)

/-- A filled row of the scratch, placed in the scratch. -/
theorem place_fill {x1 x2 x3 cbs} (H : Whole x1 x2 x3 cbs) (l : ℕ) (hl : l < 4)
    (f : Vec Ideal S1x1024 .f32 → FVec Ideal S1x1024x1024 .f32) (hf : ∀ v k b, f v (ix3 0 k b) = v (ix2 0 k)) (inb)
    (x : S1x1024x1024.Idx) (y : S4x1024x1024.Idx) (h0 : (y 0 : ℕ) = l) (h1 : (y 1 : ℕ) = x 1) :
    f (View.ld x3 (Rect.unit (s := S4x1024) ![l, 0] ![1, 1024] inb)) x = ∑ d, cbs (y 0 : ℕ) (y 1) d * cbs (y 0 : ℕ) (y 1) d := by
  have hx : x = ix3 0 (x 1) (x 2) := by blk_ext
  have hy : (y 1 : Fin 1024) = x 1 := Fin.ext h1
  rw [hx, h0, hy]
  exact (hf _ _ _).trans ((ld_cbn x3 l hl inb (x 1)).trans (H.norm ⟨l, hl⟩ (x 1)))

/-! ## The points -/

/-- The scratch read back whole. -/
theorem kept (xs : Vec Ideal S4x1024x1024 .f32) :
    View.read (Elt Ideal) (View.whole cc0_scratch0) ((Memref.isWhole_whole cc0_scratch0).unread xs) = xs :=
  (Memref.isWhole_whole cc0_scratch0).read_unread xs

variable (m : (ℓ : Loc nD τ sig) → Buf (Elt Ideal) ℓ) (c : Dev nD) (cbs : ℕ → Fin 1024 → Fin 256 → EReal)

/-- The constant windows' blocks at every point. -/
def Entry : Prop := ∀ t : Fin cfg0.N, Whole (iblk m c 1 t) (iblk m c 2 t) (iblk m c 3 t) cbs

variable (H : Entry m c cbs)
include H

/-- The first point fills the scratch with the norms. -/
theorem scratch_A (t : Fin cfg0.N) (h0 : t.val % 32 = 0) (y : S4x1024x1024.Idx) :
    (outsAt0 m c t.val t.isLt).2.2 y = ∑ d, cbs (y 0 : ℕ) (y 1) d * cbs (y 0 : ℕ) (y 1) d := by
  rw [outsAt0_A m c t h0]
  frame_out
  canon_tiles x h
  · exact place_fill (H t) 3 (by decide) _ fill4 _ x y (by omega) (by omega)
  · exact place_fill (H t) 2 (by decide) _ fill3 _ x y (by omega) (by omega)
  · exact place_fill (H t) 1 (by decide) _ fill2 _ x y (by omega) (by omega)
  · exact place_fill (H t) 0 (by decide) _ fill1 _ x y (by omega) (by omega)

/-- After every point the scratch holds the norms. -/
theorem scratch (n : ℕ) (hn : n < cfg0.N) (y : S4x1024x1024.Idx) :
    (outsAt0 m c n hn).2.2 y = ∑ d, cbs (y 0 : ℕ) (y 1) d * cbs (y 0 : ℕ) (y 1) d := by
  induction n with
  | zero => exact scratch_A m c cbs H ⟨0, hn⟩ rfl y
  | succ n ih =>
    by_cases h0 : (n + 1) % 32 = 0
    · exact scratch_A m c cbs H ⟨n + 1, hn⟩ h0 y
    · have e := outsAt0_B m c ⟨n + 1, hn⟩ h0
      have e' : (outsAt0 m c (n + 1) hn).2.2 = (outsAt0 m c n (by omega)).2.2 := by
        rw [show outsAt0 m c (n + 1) hn = _ from e]; rfl
      rw [e']
      exact ih _

/-- The codes a point leaves. -/
theorem codes_at (t : Fin cfg0.N) (y : S4x1024.Idx) :
    (outsAt0 m c t.val t.isLt).1 y = BitVec.ofNat 32 (codeAt two cbs (row (iblk m c 0 t) (y 1)) (y 0 : ℕ)) := by
  by_cases h0 : t.val % 32 = 0
  · rw [outsAt0_A m c t h0]
    frame_open
    simp (disch := decide) only [↓ View.readCov_skip, ↓ View.readCov_cons_toLoadRect, ↓ View.readCov_fill]
    frame_out
    have R0 := fun i1 i2 i3 => reads_filled (H t) 0 (by decide) k0_pay1 fill1 i1 i2 i3
    have R1 := fun i1 i2 i3 => reads_filled (H t) 1 (by decide) k0_pay2 fill2 i1 i2 i3
    have R2 := fun i1 i2 i3 => reads_filled (H t) 2 (by decide) k0_pay3 fill3 i1 i2 i3
    have R3 := fun i1 i2 i3 => reads_filled (H t) 3 (by decide) k0_pay4 fill4 i1 i2 i3
    canon_tiles x h
    · refine place_code (iblk m c 0 t) cbs 3 _ (fun b => ?_) x y (by omega) (by omega)
      exact tile_code3 _ _ _ _ _ _ _ _ _ _ _ _ _ cbs (R0 _ _ _) (R1 _ _ _) (R2 _ _ _) (R3 _ _ inb_S4x768x1024_S1x768x1024_3_0_0) b
    · refine place_code (iblk m c 0 t) cbs 2 _ (fun b => ?_) x y (by omega) (by omega)
      exact tile_code2 _ _ _ _ _ _ _ _ _ _ cbs (R0 _ _ _) (R1 _ _ _) (R2 _ _ inb_S4x768x1024_S1x768x1024_2_0_0) b
    · refine place_code (iblk m c 0 t) cbs 1 _ (fun b => ?_) x y (by omega) (by omega)
      exact tile_code1 _ _ _ _ _ _ _ cbs (R0 _ _ _) (R1 _ _ inb_S4x768x1024_S1x768x1024_1_0_0) b
    · refine place_code (iblk m c 0 t) cbs 0 _ (fun b => ?_) x y (by omega) (by omega)
      exact tile_code0 _ _ _ _ cbs (R0 _ _ inb_S4x768x1024_S1x768x1024_0_0_0) b
  · have S : Spread (outsAt0 m c (t.val - 1) (by have := t.isLt; omega)).2.2 cbs := fun l k b => scratch m c cbs H _ _ _
    rw [outsAt0_B m c t h0]
    generalize (outsAt0 m c (t.val - 1) _).2.2 = xs at S ⊢
    frame_out
    simp only [kept]
    have R0 := fun i1 i2 i3 => reads_kept (H t) S 0 (by decide) i1 i2 i3
    have R1 := fun i1 i2 i3 => reads_kept (H t) S 1 (by decide) i1 i2 i3
    have R2 := fun i1 i2 i3 => reads_kept (H t) S 2 (by decide) i1 i2 i3
    have R3 := fun i1 i2 i3 => reads_kept (H t) S 3 (by decide) i1 i2 i3
    canon_tiles x h
    · refine place_code (iblk m c 0 t) cbs 3 _ (fun b => ?_) x y (by omega) (by omega)
      exact tile_code3 _ _ _ _ _ _ _ _ _ _ _ _ _ cbs (R0 _ _ _) (R1 _ _ _) (R2 _ _ _)
        (R3 _ _ inb_S4x768x1024_S1x768x1024_3_0_0) b
    · refine place_code (iblk m c 0 t) cbs 2 _ (fun b => ?_) x y (by omega) (by omega)
      exact tile_code2 _ _ _ _ _ _ _ _ _ _ cbs (R0 _ _ _) (R1 _ _ _)
        (R2 _ _ inb_S4x768x1024_S1x768x1024_2_0_0) b
    · refine place_code (iblk m c 0 t) cbs 1 _ (fun b => ?_) x y (by omega) (by omega)
      exact tile_code1 _ _ _ _ _ _ _ cbs (R0 _ _ _) (R1 _ _ inb_S4x768x1024_S1x768x1024_1_0_0) b
    · refine place_code (iblk m c 0 t) cbs 0 _ (fun b => ?_) x y (by omega) (by omega)
      exact tile_code0 _ _ _ _ cbs (R0 _ _ inb_S4x768x1024_S1x768x1024_0_0_0) b

/-- The sums a point leaves. -/
theorem sums_at (t : Fin cfg0.N) (b : Fin 1024) (d : Fin 256) :
    (outsAt0 m c t.val t.isLt).2.1 (ix2 b d) = total two cbs (row (iblk m c 0 t) b) 4 d := by
  by_cases h0 : t.val % 32 = 0
  · rw [outsAt0_A m c t h0]
    frame_open
    simp (disch := decide) only [↓ View.readCov_skip, ↓ View.readCov_cons_toLoadRect, ↓ View.readCov_fill]
    frame_out
    have R0 := fun i1 i2 i3 => reads_filled (H t) 0 (by decide) k0_pay1 fill1 i1 i2 i3
    have R1 := fun i1 i2 i3 => reads_filled (H t) 1 (by decide) k0_pay2 fill2 i1 i2 i3
    have R2 := fun i1 i2 i3 => reads_filled (H t) 2 (by decide) k0_pay3 fill3 i1 i2 i3
    have R3 := fun i1 i2 i3 => reads_filled (H t) 3 (by decide) k0_pay4 fill4 i1 i2 i3
    exact tile_sum _ _ _ _ _ _ _ _ _ _ _ _ _ cbs (R0 _ _ _) (R1 _ _ _) (R2 _ _ _) (R3 _ _ _) b d
  · have S : Spread (outsAt0 m c (t.val - 1) (by have := t.isLt; omega)).2.2 cbs := fun l k b => scratch m c cbs H _ _ _
    rw [outsAt0_B m c t h0]
    generalize (outsAt0 m c (t.val - 1) _).2.2 = xs at S ⊢
    frame_out
    simp only [kept]
    have R0 := fun i1 i2 i3 => reads_kept (H t) S 0 (by decide) i1 i2 i3
    have R1 := fun i1 i2 i3 => reads_kept (H t) S 1 (by decide) i1 i2 i3
    have R2 := fun i1 i2 i3 => reads_kept (H t) S 2 (by decide) i1 i2 i3
    have R3 := fun i1 i2 i3 => reads_kept (H t) S 3 (by decide) i1 i2 i3
    exact tile_sum _ _ _ _ _ _ _ _ _ _ _ _ _ cbs (R0 _ _ _) (R1 _ _ _) (R2 _ _ _)
      (R3 _ _ _) b d

end Cert.Proof.Blocks

end
-- ==== Proof.Entry.lean ====
/-
  What the kernel's windows hold when the grid starts: the rows of the batch, the doubled codebooks, the planes that hold
  the codebooks and zeros, and the codewords' norms, all of them over the two argument arrays.
-/
module

public import proofs.«01_k».proof.Proof.Blocks

@[expose] public section

set_option maxRecDepth 16384

noncomputable section

namespace Cert.Proof.Entry

open Idealize.ShloMosaic Idealize.SL.Sem Cert.KernelIdeal Cert.KernelIdeal.Gen Cert.Proof.Spec Cert.Proof.Level Cert.Proof.Blocks
open Idealize.ShloMosaic.TcCoe

attribute [local instance] Cert.KernelIdeal.Gen.facts

variable (m : (ℓ : Loc nD τ sig) → Buf (Elt Ideal) ℓ) (c : Dev nD)

/-- The batch a core is given. -/
abbrev argX : Vec Ideal S32768x256 .f32 := m ((c : Thread nD τ).loc main_arg0)

/-- The codebooks a core is given. -/
abbrev argC : Vec Ideal S4x1024x256 .f32 := m ((c : Thread nD τ).loc main_arg1)

/-- The codebooks, level by level, of an array of four; zero past the fourth. -/
def cbsOf (A : Vec Ideal S4x1024x256 .f32) : ℕ → Fin 1024 → Fin 256 → EReal :=
  fun l k d => if h : l < 4 then A (ix3 ⟨l, h⟩ k d) else 0

/-- A level below four reads the array at that level. -/
theorem cbsOf_at (A : Vec Ideal S4x1024x256 .f32) (l : Fin 4) (k : Fin 1024) (d : Fin 256) :
    cbsOf A l k d = A (ix3 l k d) := dif_pos l.isLt

/-- The codes of every row of a batch. -/
def codesOf (X : Vec Ideal S32768x256 .f32) (A : Vec Ideal S4x1024x256 .f32) : Vec Ideal S32768x4 .i32 :=
  fun j => BitVec.ofNat 32 (codeAt two (cbsOf A) (fun d => X (ix2 (j 0) d)) (j 1 : ℕ))

/-- The quantised batch: each row's sum of its four codewords. -/
def sumsOf (X : Vec Ideal S32768x256 .f32) (A : Vec Ideal S4x1024x256 .f32) : Vec Ideal S32768x256 .f32 :=
  fun j => total two (cbsOf A) (fun d => X (ix2 (j 0) d)) 4 (j 1)

/-- The windows' block indices. -/
theorem idx : ∀ t : Fin cfg0.N, win0_0.index t = ![t.val, 0] ∧ win0_1.index t = ![0, 0, 0] ∧ win0_2.index t = ![0, 0, 0]
    ∧ win0_3.index t = ![0, 0] ∧ win0_4.index t = ![0, t.val] ∧ win0_5.index t = ![t.val, 0] :=
  (by decide +kernel : ∀ t : Fin grid0.N, _)

/-- The doubled codebooks' block is the whole array. -/
theorem blk1 (t : Fin cfg0.N) : iblk m c 1 t = V m c main_v44 := by blk_ext! [iblk, idx t]
/-- The planes' block is the whole array. -/
theorem blk2 (t : Fin cfg0.N) : iblk m c 2 t = V m c main_v42 := by blk_ext! [iblk, idx t]
/-- The norms' block is the whole array. -/
theorem blk3 (t : Fin cfg0.N) : iblk m c 3 t = V m c main_v28 := by blk_ext! [iblk, idx t]

/-- The second window's array is twice the codebooks. -/
theorem cb2 (l : Fin 4) (k : Fin 1024) (d : Fin 256) :
    V m c main_v44 (ix3 l k d) = (two * argC m c (ix3 l k d) : EReal) := by
  unfold V V0
  simp only [hostOps0, hostOps0_1, hostOps0_2, List.flatten_cons, List.flatten_nil, List.append_nil, List.cons_append, List.nil_append]
  after_results
  pointwise

/-- The third window's array holds the codebooks, transposed, in its first plane and zeros in the other two. -/
theorem plane (l : Fin 4) (k : Fin 1024) (d : Fin 768) :
    V m c main_v42 (ix3 l d k) = (if h : (d : ℕ) < 256 then argC m c (ix3 l k ⟨d, h⟩) else 0 : EReal) := by
  suffices h : ∀ A, V m c main_v42 = A →
      A (ix3 l d k) = (if h : (d : ℕ) < 256 then argC m c (ix3 l k ⟨d, h⟩) else 0 : EReal) from h _ rfl
  intro A
  unfold V V0
  simp only [hostOps0, hostOps0_1, hostOps0_2, List.flatten_cons, List.flatten_nil, List.append_nil, List.cons_append, List.nil_append]
  after_results
  rintro rfl
  pointwise
  after_results_simp
  simp -implicitDefEqProofs only [StableHlo.TRef.toBuf, StableHlo.TRef.ofBuf, cast_cast, cast_eq]
  pointwise
  have z : (id (constant (F := Ideal) S_ FTy.f32 0#32) : Vec Ideal S_ .f32) ix0 = (0 : EReal) := by
    show constant (F := Ideal) S_ FTy.f32 0#32 ix0 = (0 : EReal)
    pointwise
  rw [z, sub_zero]
  split
  · rfl
  · split <;> rfl

/-- The fourth window's array holds the codewords' norms. -/
theorem nrm (l : Fin 4) (k : Fin 1024) :
    V m c main_v28 (ix2 l k) = (∑ d, argC m c (ix3 l k d) * argC m c (ix3 l k d) : EReal) := by
  suffices h : ∀ A, V m c main_v28 = A →
      A (ix2 l k) = (∑ d, argC m c (ix3 l k d) * argC m c (ix3 l k d) : EReal) from h _ rfl
  intro A
  unfold V V0
  simp only [hostOps0, hostOps0_1, hostOps0_2, List.flatten_cons, List.flatten_nil, List.append_nil, List.cons_append, List.nil_append]
  after_results
  rintro rfl
  pointwise
  after_results_simp
  pointwise
  fin_cases l <;> rfl

/-- The windows hold what the levels read of them. -/
theorem entry : Entry m c (cbsOf (argC m c)) := by
  intro t
  refine ⟨fun l k d => ?_, fun l k d => ?_, fun l k => ?_⟩
  · rw [blk1, cb2, cbsOf_at]
  · rw [blk2, plane]
    split <;> simp only [cbsOf_at]
  · rw [blk3, nrm]
    simp only [cbsOf_at]

/-- A row of a point's tile is a row of the batch. -/
theorem rows (t : Fin cfg0.N) (b : Fin 1024) (i : Fin 32768) (h : i.val = t.val * 1024 + b.val) :
    row (iblk m c 0 t) b = fun d => argX m c (ix2 i d) := by
  funext d
  have hb : t.val * 1024 + b.val < 32768 := h ▸ i.isLt
  obtain rfl : i = ⟨t.val * 1024 + b.val, hb⟩ := Fin.ext h
  show iblk m c 0 t (ix2 b d) = _
  blk_point [iblk, V, idx t]

/-- The array of codes after the run, a level's codes in a line. -/
theorem codes_array : (dats m 0 c).arrAt 4 (cfgs 0).N
    = fun j : S4x32768.Idx => (BitVec.ofNat 32 (codeAt two (cbsOf (argC m c)) (fun d => argX m c (ix2 (j 1) d)) (j 0 : ℕ)) : BitVec 32) := by
  refine (dats m 0 c).arrAt_eq_of_covers 4 _ (by decide +kernel) fun t _ y => ?_
  blk_simp
  have h1 : ((win0_4.blk t).view.emb y 1).val = t.val * 1024 + (y 1).val := by
    blk_simp [idx t]
  have h0 : win0_4.index t 0 * 4 + (y 0).val = (y 0).val := by
    simp [idx t]
  rw [after0_4, codes_at m c _ (entry m c) t, h0, rows m c t (y 1) _ h1]

/-- The array of sums after the run. -/
theorem sums_array : (dats m 0 c).arrAt 5 (cfgs 0).N = sumsOf (argX m c) (argC m c) := by
  refine (dats m 0 c).arrAt_eq_of_covers 5 _ (by decide +kernel) fun t _ y => ?_
  blk_simp
  have h0 : ((win0_5.blk t).view.emb y 0).val = t.val * 1024 + (y 0).val := by
    blk_simp [idx t]
  have h1 : (win0_5.blk t).view.emb y 1 = y 1 := Fin.ext (by blk_simp [idx t])
  have e := sums_at m c _ (entry m c) t (y 0) (y 1)
  rw [rows m c t (y 0) _ h0] at e
  rw [after0_5]
  refine Eq.trans (congrArg _ (eq_ix2 y)) (e.trans ?_)
  show _ = total two _ _ 4 ((win0_5.blk t).view.emb y 1)
  rw [h1]

/-- The host's last line turns the array of codes over, a row's codes in a line. -/
theorem codes_host : Pipeline.afterTail₀ cfgs (dats m) 0 (V0 m) [hostOps1] c main_v46 = codesOf (argX m c) (argC m c) := by
  unfold Pipeline.afterTail₀
  simp only [hostOps1, List.flatten_cons, List.flatten_nil, List.append_nil]
  after_results
  have e := Pipeline.withArrays_arr (cfgs 0).spec (by decide) c (V0 m c) (fun w => (dats m 0 c).arrAt w (cfgs 0).N) 4
  have e' := e.trans (codes_array m c)
  refine (congrArg (fun A : S4x32768.Idx → BitVec 32 => transpose S32768x4 [1, 0] A transposes_S4x32768_S32768x4_1_0) e').trans ?_
  funext j
  idx_vars j
  pointwise [codesOf]

/-- The run of the kernel leaves the codes and the sums of the argument arrays. -/
theorem run_results (ρ : Dev nD → PrngReg) :
    θ_run defs (onTc (τ := τ) (main (F := Ideal))) ⟨m, fun _ => 0, ρ⟩ (fun r => ∀ c : Dev nD,
      r.2.mem ((c.tc : Thread nD τ).loc main_v46) = codesOf (argX m c) (argC m c)
      ∧ r.2.mem ((c.tc : Thread nD τ).loc main_v45_1) = sumsOf (argX m c) (argC m c)) := by
  run_from run_main m ρ
  · exact codes_host m c
  · exact sums_array m c

/-- The run of the kernel: the codes and the sums of the argument arrays, and those left as they were. -/
theorem run (ρ : Dev nD → PrngReg) :
    θ_run defs (onTc (τ := τ) (main (F := Ideal))) ⟨m, fun _ => 0, ρ⟩ (fun r => ∀ c : Dev nD,
      r.2.mem ((c.tc : Thread nD τ).loc main_v46) = codesOf (argX m c) (argC m c)
      ∧ r.2.mem ((c.tc : Thread nD τ).loc main_v45_1) = sumsOf (argX m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1, (h.1 c).2, (h.2 c).1, (h.2 c).2⟩)
    (θ_run_and (run_results m ρ) (unchanged m ρ))

end Cert.Proof.Entry

end
-- ==== Proof.ArgMin.lean ====
/-
  The place of a row's least entry: the pairs' reducer keeps the smaller value, and of equal values the earlier place, so
  that its fold over a row ends at the first place of the least entry.
-/
module

public import proofs.«01_k».proof.Proof.Gen.ReferenceIdeal
public import proofs.«01_k».proof.Proof.Level
public import Idealize.ShloMosaic.Lib.Claim
public import Idealize.ShloMosaic.Lib.ReduceAll
public import Idealize.ShloMosaic.Lib.WordCmp
public import Idealize.ShloMosaic.Lib.Pointwise.Reduce
public import Idealize.ShloMosaic.PureOps.Reduce
public import Idealize.ShloMosaic.PureOps.Ideal.Laws

@[expose] public section

set_option maxRecDepth 16384

noncomputable section

namespace Cert.Proof.ArgMin

open Idealize.ShloMosaic Idealize.SL.Sem Cert.ReferenceIdeal Cert.Proof.Spec Cert.Proof.Level
open Idealize.ShloMosaic.TcCoe

attribute [local instance] Cert.ReferenceIdeal.Gen.facts

/-! ## The place of a row's least entry -/

/-- One pair comes no later than another: a smaller value, or an equal value at no later a place. -/
def Before (a b : EReal × BitVec 32) : Prop := a.1 < b.1 ∨ a.1 = b.1 ∧ a.2.toInt ≤ b.2.toInt

/-- The order of pairs is reflexive. -/
theorem Before.refl (a : EReal × BitVec 32) : Before a a := Or.inr ⟨rfl, le_rfl⟩

/-- The order of pairs is transitive. -/
theorem Before.trans {a b c : EReal × BitVec 32} (h : Before a b) (k : Before b c) : Before a c := by
  rcases h with h | ⟨h, h'⟩ <;> rcases k with k | ⟨k, k'⟩
  · exact Or.inl (h.trans k)
  · exact Or.inl (k ▸ h)
  · exact Or.inl (h.symm ▸ k)
  · exact Or.inr ⟨h.trans k, h'.trans k'⟩

/-- The reducer's step as conditions on the pairs. -/
theorem step_eq (a b : EReal × BitVec 32) :
    reducer_argmin_f32_i32 (F := Ideal) a b
      = (if a.1 < b.1 then a.1 else b.1, if a.1 < b.1 ∨ a.1 = b.1 ∧ a.2.toInt < b.2.toInt then a.2 else b.2) := by
  obtain ⟨a1, a2⟩ := a
  obtain ⟨b1, b2⟩ := b
  unfold reducer_argmin_f32_i32
  by_cases h1 : a1 < b1 <;> by_cases h2 : a1 = b1 <;> by_cases h3 : a2.toInt < b2.toInt <;>
    simp [Ideal.cmpf_def, Ideal.cmp, IntOp.ori, IntOp.andi, WordCmp.cmpi_slt_eq, Scalar.select, h1, h2, h3]

/-- The reducer's step is one of its two pairs, and comes no later than either. -/
theorem step_least (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨a1, a2⟩ := a
  obtain ⟨b1, b2⟩ := b
  rw [step_eq]
  dsimp only
  rcases lt_trichotomy a1 b1 with h | h | h
  · rw [if_pos h, if_pos (Or.inl h)]
    exact ⟨Or.inl rfl, Before.refl _, Or.inl h⟩
  · subst h
    rw [if_neg (lt_irrefl _)]
    by_cases k : a2.toInt < b2.toInt
    · rw [if_pos (Or.inr ⟨rfl, k⟩)]
      exact ⟨Or.inl rfl, Before.refl _, Or.inr ⟨rfl, k.le⟩⟩
    · rw [if_neg (by rintro (h | h); exacts [lt_irrefl _ h, k h.2])]
      exact ⟨Or.inr rfl, Or.inr ⟨rfl, not_lt.1 k⟩, Before.refl _⟩
  · rw [if_neg (not_lt.2 h.le), if_neg (by rintro (k | k); exacts [lt_asymm h k, h.ne' k.1])]
    exact ⟨Or.inr rfl, Or.inl h, Before.refl _⟩

/-- The reducer folded along a list ends at the start or a member, no later than the start or any member. -/
theorem fold_least (L : List (EReal × BitVec 32)) : ∀ p : EReal × BitVec 32,
    (L.foldl (reducer_argmin_f32_i32 (F := Ideal)) p = p ∨ L.foldl (reducer_argmin_f32_i32 (F := Ideal)) p ∈ L)
      ∧ Before (L.foldl (reducer_argmin_f32_i32 (F := Ideal)) p) p
      ∧ ∀ q ∈ L, Before (L.foldl (reducer_argmin_f32_i32 (F := Ideal)) p) q := by
  induction L with
  | nil => exact fun p => ⟨Or.inl rfl, Before.refl _, fun _ h => nomatch h⟩
  | cons a L ih =>
    intro p
    obtain ⟨h1, h2, h3⟩ := ih (reducer_argmin_f32_i32 (F := Ideal) p a)
    obtain ⟨s1, s2, s3⟩ := step_least p a
    rw [List.foldl_cons]
    refine ⟨?_, h2.trans s2, fun q hq => ?_⟩
    · rcases h1 with h1 | h1
      · rcases s1 with s1 | s1
        · exact Or.inl (h1.trans s1)
        · exact Or.inr (by rw [h1, s1]; exact List.mem_cons_self ..)
      · exact Or.inr (List.mem_cons_of_mem _ h1)
    · rcases List.mem_cons.1 hq with rfl | hq
      · exact h2.trans s3
      · exact h3 q hq

/-- The pairs folded for one row of an array are the row's entries with their places' entries. -/
theorem mem_fiber {n0 n1 : ℕ} {t : Shape} {α β : Type} (x : (⟨2, ![n0, n1]⟩ : Shape).Idx → α) (y : (⟨2, ![n0, n1]⟩ : Shape).Idx → β)
    (h : (⟨2, ![n0, n1]⟩ : Shape).ReducesTo [1] t) (j : t.Idx) (q : α × β) :
    q ∈ Host.argReduceFiber x y h j ↔ ∃ k : Fin n1,
      (x (ix2 ⟨(j ⟨0, h.lt_r2_a1_0⟩).val, Shape.coordLt (j ⟨0, h.lt_r2_a1_0⟩) h.size_r2_a1_0⟩ k),
        y (ix2 ⟨(j ⟨0, h.lt_r2_a1_0⟩).val, Shape.coordLt (j ⟨0, h.lt_r2_a1_0⟩) h.size_r2_a1_0⟩ k)) = q := by
  unfold Host.argReduceFiber
  rw [List.mem_map]
  constructor
  · rintro ⟨n, hn, rfl⟩
    obtain ⟨k, hk⟩ := (h.fiber_r2_a1 j _).1 (of_decide_eq_true (List.mem_filter.1 hn).2)
    exact ⟨k, by rw [hk]⟩
  · rintro ⟨k, rfl⟩
    refine ⟨(⟨2, ![n0, n1]⟩ : Shape).rowMajor
      (ix2 ⟨(j ⟨0, h.lt_r2_a1_0⟩).val, Shape.coordLt (j ⟨0, h.lt_r2_a1_0⟩) h.size_r2_a1_0⟩ k), List.mem_filter.2 ⟨List.mem_finRange _, decide_eq_true ?_⟩, ?_⟩
    · rw [Equiv.symm_apply_apply]
      exact (h.fiber_r2_a1 j _).2 ⟨k, rfl⟩
    · rw [Equiv.symm_apply_apply]

/-- The reducer folded over a function's values with their places ends at the first place of the least value. -/
theorem fold_first (L : List (EReal × BitVec 32)) (f : Fin 1024 → EReal)
    (hL : ∀ q : EReal × BitVec 32, q ∈ L ↔ ∃ k : Fin 1024, (f k, BitVec.ofNat 32 (k : ℕ)) = q) :
    (L.foldl (reducer_argmin_f32_i32 (F := Ideal)) (⊤, 0#32)).2 = BitVec.ofNat 32 (firstMin f) := by
  obtain ⟨h1, h2, h3⟩ := fold_least L (⊤, 0#32)
  generalize List.foldl (reducer_argmin_f32_i32 (F := Ideal)) (⊤, 0#32) L = r at h1 h2 h3 ⊢
  have h4 : ∀ k : Fin 1024, Before r (f k, BitVec.ofNat 32 (k : ℕ)) := fun k => h3 _ ((hL _).2 ⟨k, rfl⟩)
  rcases h1 with h1 | h1
  · subst h1
    have top : ∀ k, f k = ⊤ := fun k => by
      rcases h4 k with h | ⟨h, _⟩
      · exact absurd h not_top_lt
      · exact h.symm
    have e : (0 : Fin 1024) = firstMin f := firstMin_unique f 0 (fun j => by rw [top, top]) (fun j _ => Fin.zero_le j)
    rw [← e]
    rfl
  · obtain ⟨k, rfl⟩ := (hL _).1 h1
    have e : k = firstMin f := by
      refine firstMin_unique f k (fun j => ?_) (fun j hj => ?_)
      · rcases h4 j with h | ⟨h, _⟩
        · exact h.le
        · exact h.le
      · rcases h4 j with h | ⟨_, h⟩
        · exact absurd hj h.ne
        · simp only [toInt_ofNat] at h
          exact Fin.le_def.2 (by exact_mod_cast h)
    rw [← e]

/-- The reduction with the pairs' reducer over an array's rows, of a row's entries and their places, ends at the first
place of the row's least entry. -/
theorem reduce_first {n0 : ℕ} {t u : Shape} (x : FVec Ideal (⟨2, ![n0, 1024]⟩ : Shape) .f32)
    (y : (⟨2, ![n0, 1024]⟩ : Shape).Idx → BitVec 32) (a : FVec Ideal u .f32) (b : u.Idx → BitVec 32)
    (h : (⟨2, ![n0, 1024]⟩ : Shape).ReducesTo [1] t) (hu : 0 < u.numel) (j : t.Idx) (ha : ∀ i, a i = (⊤ : EReal))
    (hb : ∀ i, b i = 0#32) (hy : ∀ i (k : Fin 1024), y (ix2 i k) = BitVec.ofNat 32 (k : ℕ)) :
    (Host.argReduce reducer_argmin_f32_i32 x y a b h hu j).2 = BitVec.ofNat 32 (firstMin fun k =>
      x (ix2 ⟨(j ⟨0, h.lt_r2_a1_0⟩).val, Shape.coordLt (j ⟨0, h.lt_r2_a1_0⟩) h.size_r2_a1_0⟩ k)) := by
  rw [Ideal.argReduce_eq_reduce2, Host.reduce2_eq_foldl_fiber, ha, hb]
  refine fold_first _ _ (fun q => (mem_fiber x y h j q).trans ?_)
  simp only [hy]

/-- The reference's search for the place of each row's least entry. -/
def argmin (x : Vec Ideal S32768x1024 .f32) : Vec Ideal S32768 .i32 :=
  fun j => (Host.argReduce reducer_argmin_f32_i32 x (iotaInDim S32768x1024 32 1) (constant (F := Ideal) S_ .f32 0x7F800000#32)
    (constantI S_ 32 0#32) Gen.reducesTo_S32768x1024_S32768_d1 Gen.h_S_ j).2

/-- The search as a function of the array and the row. -/
theorem argmin_eq : argmin = fun (x : Vec Ideal S32768x1024 .f32) (j : S32768.Idx) =>
    (Host.argReduce reducer_argmin_f32_i32 x (iotaInDim S32768x1024 32 1) (constant (F := Ideal) S_ .f32 0x7F800000#32)
      (constantI S_ 32 0#32) Gen.reducesTo_S32768x1024_S32768_d1 Gen.h_S_ j).2 := rfl

/-- The place the search finds in a row is the first place of the row's least entry. -/
theorem argmin_at (x : Vec Ideal S32768x1024 .f32) (i : Fin 32768) :
    argmin x (ix1 i) = BitVec.ofNat 32 (firstMin fun k => x (ix2 i k)) := by
  rw [argmin_eq]
  exact reduce_first (n0 := 32768) x (iotaInDim S32768x1024 32 1) (constant (F := Ideal) S_ .f32 0x7F800000#32)
    (constantI S_ 32 0#32) Gen.reducesTo_S32768x1024_S32768_d1 Gen.h_S_ (ix1 i) (fun _ => ofBits_inf) (fun _ => rfl) (fun _ _ => rfl)

end Cert.Proof.ArgMin

end
-- ==== Proof.RefOps.lean ====
/-
  The reference's operations over one level, read at an index: the distances of the rows to the codewords, the place of a
  row's least distance, and the codewords taken at those places.
-/
module

public import proofs.«01_k».proof.Proof.Gen.ReferenceIdeal
public import proofs.«01_k».proof.Proof.Level
public import proofs.«01_k».proof.Proof.ArgMin
public import Idealize.ShloMosaic.Lib.Claim
public import Idealize.ShloMosaic.Lib.WordCmp
public import Idealize.ShloMosaic.Lib.ReduceAll
public import Idealize.ShloMosaic.Lib.Routing.Ops
public import Idealize.ShloMosaic.Lib.Pointwise.Reduce
public import Idealize.ShloMosaic.PureOps.Reduce
public import Idealize.ShloMosaic.PureOps.Ideal.Laws

@[expose] public section

set_option maxRecDepth 16384

noncomputable section

namespace Cert.Proof.RefOps

open Idealize.ShloMosaic Idealize.SL.Sem Cert.ReferenceIdeal Cert.Proof.Spec Cert.Proof.Level Cert.Proof.ArgMin
open Idealize.ShloMosaic.TcCoe

attribute [local instance] Cert.ReferenceIdeal.Gen.facts

/-! ## The codewords taken -/

/-- The places made ready for the take: those below zero moved up by the number of codewords. -/
def places (i : Vec Ideal S32768 .i32) : Vec Ideal S32768x1 .i32 :=
  broadcastInDim S32768x1 ![0] Gen.bcast_S32768_S32768x1_0
    (select (cmpi .slt i (broadcastInDim S32768 ![] Gen.bcast_S_S32768 (constantI S_ 32 0#32)))
      (addi i (broadcastInDim S32768 ![] Gen.bcast_S_S32768 (constantI S_ 32 1024#32))) i)

/-- Whether each place lies among the codewords. -/
def within (i : Vec Ideal S32768 .i32) : Vec Ideal S32768x1 .i1 :=
  andi (cmpi .sge (places i) (broadcastInDim S32768x1 ![] Gen.bcast_S_S32768x1 (constantI S_ 32 0#32)))
    (cmpi .sle (places i) (broadcastInDim S32768x1 ![0, 1] Gen.bcast_S1x1_S32768x1_0_1
      (broadcastInDim S1x1 ![1] Gen.bcast_S1_S1x1_1 (constantI S1 32 1023#32))))

/-- The reference's take: the codeword at each place, and the quiet not-a-number's reading at a place outside. -/
def take (cb : Vec Ideal S1024x256 .f32) (i : Vec Ideal S32768 .i32) : Vec Ideal S32768x256 .f32 :=
  select (broadcastInDim S32768x256 ![0] Gen.bcast_S32768_S32768x256_0
      (Host.reduce IntOp.andi (within i) (constantI S_ 1 1#1) Gen.reducesTo_S32768x1_S32768_d1 Gen.h_S_))
    (Host.gather gather_S1024x256_S32768x1_S32768x256_1_0_n_n_0_1_1256 cb (places i))
    (broadcastInDim S32768x256 ![] Gen.bcast_S_S32768x256 (constant (F := Ideal) S_ .f32 0x7FC00000#32))

/-- The places of codes are the codes. -/
theorem places_at (i : Vec Ideal S32768 .i32) (k : Fin 32768 → Fin 1024) (h : ∀ b, i (ix1 b) = BitVec.ofNat 32 (k b : ℕ)) (b : Fin 32768) :
    places i (ix2 b 0) = BitVec.ofNat 32 (k b : ℕ) := by
  have e : places i (ix2 b 0) = Scalar.select (IntOp.cmpi .slt (i (ix1 b)) 0#32) (IntOp.addi (i (ix1 b)) 1024#32) (i (ix1 b)) := by
    pointwise [places]
  rw [e, h b, WordCmp.cmpi_slt_eq, toInt_ofNat]
  have : ¬ (((k b : ℕ) : ℤ) < (0#32 : BitVec 32).toInt) := by
    rw [show (0#32 : BitVec 32).toInt = 0 from rfl]; omega
  rw [decide_eq_false this]
  rfl

/-- Every code lies among the codewords. -/
theorem within_at (i : Vec Ideal S32768 .i32) (k : Fin 32768 → Fin 1024) (h : ∀ b, i (ix1 b) = BitVec.ofNat 32 (k b : ℕ)) (j : S32768x1.Idx) :
    within i j = 1#1 := by
  obtain ⟨b, rfl⟩ : ∃ b : Fin 32768, j = ix2 b 0 := ⟨j 0, by
    rw [eq_ix2 j]; exact congrArg (ix2 (j 0)) (Subsingleton.elim (α := Fin 1) _ _)⟩
  have e : within i (ix2 b 0) = IntOp.andi (IntOp.cmpi .sge (places i (ix2 b 0)) 0#32) (IntOp.cmpi .sle (places i (ix2 b 0)) 1023#32) := by
    pointwise [within]
  rw [e, places_at i k h b, WordCmp.cmpi_sge_eq, WordCmp.cmpi_sle_eq, toInt_ofNat]
  have hk := (k b).isLt
  rw [decide_eq_true (show (0#32 : BitVec 32).toInt ≤ ((k b : ℕ) : ℤ) by rw [show (0#32 : BitVec 32).toInt = 0 from rfl]; omega),
    decide_eq_true (show ((k b : ℕ) : ℤ) ≤ (1023#32 : BitVec 32).toInt by rw [show (1023#32 : BitVec 32).toInt = 1023 from rfl]; omega)]
  rfl

/-- A choice by row, read at an entry. -/
theorem masked_at (p : Vec Ideal S32768 .i1) (g z : Vec Ideal S32768x256 .f32) (b : Fin 32768) (d : Fin 256) :
    select (broadcastInDim S32768x256 ![0] Gen.bcast_S32768_S32768x256_0 p) g z (ix2 b d)
      = Scalar.select (p (ix1 b)) (g (ix2 b d)) (z (ix2 b d)) := by
  pointwise

/-- The take at codes is the codewords of the codes. -/
theorem take_at (cb : Vec Ideal S1024x256 .f32) (i : Vec Ideal S32768 .i32) (k : Fin 32768 → Fin 1024)
    (h : ∀ b, i (ix1 b) = BitVec.ofNat 32 (k b : ℕ)) (b : Fin 32768) (d : Fin 256) :
    take cb i (ix2 b d) = cb (ix2 (k b) d) := by
  unfold take
  rw [masked_at, Host.reduce_andi_one _ _ _ _ _ rfl (within_at i k h)]
  exact Routing.gather_row gather_S1024x256_S32768x1_S32768x256_1_0_n_n_0_1_1256 rfl rfl rfl rfl rfl cb (places i) b d (k b)
    (places_at i k h b) (by norm_num)

/-! ## The distances -/

/-- The reference's squared distances of rows to codewords. -/
def dists (r : Vec Ideal S32768x256 .f32) (cb : Vec Ideal S1024x256 .f32) : Vec Ideal S32768x1024 .f32 :=
  addf
    (subf
      (broadcastInDim S32768x1024 ![0, 1] Gen.bcast_S32768x1_S32768x1024_0_1
        (broadcastInDim S32768x1 ![0] Gen.bcast_S32768_S32768x1_0
          (Host.reduceAdd (mulf r r) (constant (F := Ideal) S_ .f32 0x00000000#32) Gen.reducesTo_S32768x256_S32768_d1 Gen.h_S_)))
      (mulf (broadcastInDim S32768x1024 ![] Gen.bcast_S_S32768x1024 (constant (F := Ideal) S_ .f32 0x40000000#32))
        (Host.dotGeneral (φ₁ := .f32) (φ₂ := .f32) dot_S32768x256_S256x1024_S32768x1024_1_0_0_1_n_n none r
          (transpose S256x1024 [1, 0] cb Gen.transposes_S1024x256_S256x1024_1_0))))
    (broadcastInDim S32768x1024 ![0, 1] Gen.bcast_S1x1024_S32768x1024_0_1
      (broadcastInDim S1x1024 ![1] Gen.bcast_S1024_S1x1024_1
        (Host.reduceAdd (mulf cb cb) (constant (F := Ideal) S_ .f32 0x00000000#32) Gen.reducesTo_S1024x256_S1024_d1 Gen.h_S_)))

/-- A distance is the row's norm less twice the product, and the codeword's norm. -/
theorem dists_at (r : Vec Ideal S32768x256 .f32) (cb : Vec Ideal S1024x256 .f32) (i : Fin 32768) (k : Fin 1024) :
    dists r cb (ix2 i k) = Spec.dist two (fun d => r (ix2 i d)) (fun k d => cb (ix2 k d)) k := by
  pointwise [dists, Spec.dist]

/-- The codes of one level. -/
theorem codes_at (r : Vec Ideal S32768x256 .f32) (cb : Vec Ideal S1024x256 .f32) (i : Fin 32768) :
    argmin (dists r cb) (ix1 i) = BitVec.ofNat 32 (code two (fun d => r (ix2 i d)) (fun k d => cb (ix2 k d))) := by
  rw [argmin_at]
  refine congrArg (fun f => BitVec.ofNat 32 (firstMin f : Fin 1024)) (funext fun k => ?_)
  exact dists_at r cb i k

/-- The codewords of one level. -/
theorem picks_at (r : Vec Ideal S32768x256 .f32) (cb : Vec Ideal S1024x256 .f32) (i : Fin 32768) (d : Fin 256) :
    take cb (argmin (dists r cb)) (ix2 i d) = pick two (fun d => r (ix2 i d)) (fun k d => cb (ix2 k d)) d :=
  take_at cb _ (fun i => code two (fun d => r (ix2 i d)) (fun k d => cb (ix2 k d))) (codes_at r cb) i d

end Cert.Proof.RefOps

end
-- ==== Proof.RefRun.lean ====
/-
  The reference's run: its operations in one line, cut into the four levels; what each level leaves of the rows left over,
  of the sums and of the codes, over any contents before it; and the two results, of the argument arrays.
-/
module

public import proofs.«01_k».proof.Defs
public import proofs.«01_k».proof.Proof.RefOps
public import proofs.«01_k».proof.Proof.Entry
public import Idealize.ShloMosaic.Lib.StableHlo.RunRead

@[expose] public section

set_option maxRecDepth 16384

noncomputable section

namespace Cert.Proof.RefRun

open Idealize.ShloMosaic Idealize.SL.Sem Cert.ReferenceIdeal Cert.Proof.Spec Cert.Proof.Level Cert.Proof.ArgMin Cert.Proof.RefOps
open Cert.Proof.Entry (cbsOf cbsOf_at codesOf sumsOf)
open Idealize.ShloMosaic.TcCoe

attribute [local instance] Cert.ReferenceIdeal.Gen.facts

/-! ## The operations in one line, and its cut into levels -/

/-- The reference's operations in the order they run. -/
def line : {ops : List (HloOp τ sig (Elt Ideal)) // ∀ d, StableHlo.IsSeq (main (F := Ideal) d) ops} := by
  apply Subtype.mk
  hlo_seq

/-- The operations of the first level. -/
def level0 : List (HloOp τ sig (Elt Ideal)) := line.1.take 51

/-- The operations of the second level. -/
def level1 : List (HloOp τ sig (Elt Ideal)) := (line.1.drop 51).take 49

/-- The operations of the third level. -/
def level2 : List (HloOp τ sig (Elt Ideal)) := (line.1.drop 100).take 49

/-- The operations of the fourth level. -/
def level3 : List (HloOp τ sig (Elt Ideal)) := (line.1.drop 149).take 49

/-- The operations that stand each level's codes up as a column. -/
def columns : List (HloOp τ sig (Elt Ideal)) := (line.1.drop 198).take 4

/-- The operation that joins the columns. -/
def joined : List (HloOp τ sig (Elt Ideal)) := line.1.drop 202

/-- The contents after one line and another are those after the second, of those after the first. -/
theorem after_both (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- A list past one place is the stretch from there to a later place and the list past that. -/
theorem cut (l : List (HloOp τ sig (Elt Ideal))) (a b : ℕ) : (l.drop a).take b ++ l.drop (a + b) = l.drop a := by
  rw [← List.drop_drop]
  exact List.take_append_drop b _

/-- The line is its four levels in turn, the columns and their joining. -/
theorem line_eq : line.1 = level0 ++ (level1 ++ (level2 ++ (level3 ++ (columns ++ joined)))) := by
  unfold level1 level2 level3 columns joined
  rw [cut line.1 198 4, cut line.1 149 49, cut line.1 100 49, cut line.1 51 49]
  exact (List.take_append_drop 51 _).symm

/-- The contents after the line are those after the levels in turn, the columns and their joining. -/
theorem after_line (V : Valuation τ sig (Elt Ideal)) : StableHlo.after line.1 V
    = StableHlo.after joined (StableHlo.after columns (StableHlo.after level3 (StableHlo.after level2
      (StableHlo.after level1 (StableHlo.after level0 V))))) := by
  rw [line_eq, after_both, after_both, after_both, after_both, after_both]

/-! ## What one level leaves -/

/-- The codebook of the first level. -/
def book0 (A : Vec Ideal S4x1024x256 .f32) : Vec Ideal S1024x256 .f32 :=
  fun i => shapeCast S1024x256 (extractStridedSlice S1x1024x256 ![0, 0, 0] A Gen.slices_S4x1024x256_S1x1024x256_0_0_0)
    Gen.shapeCasts_S1x1024x256_S1024x256 i

/-- The codebook of the first level is the array's part at 0. -/
theorem book0_at (A : Vec Ideal S4x1024x256 .f32) (k : Fin 1024) (d : Fin 256) : book0 A (ix2 k d) = A (ix3 0 k d) := by
  pointwise [book0]

/-- The codebook of the second level. -/
def book1 (A : Vec Ideal S4x1024x256 .f32) : Vec Ideal S1024x256 .f32 :=
  fun i => shapeCast S1024x256 (extractStridedSlice S1x1024x256 ![1, 0, 0] A Gen.slices_S4x1024x256_S1x1024x256_1_0_0)
    Gen.shapeCasts_S1x1024x256_S1024x256 i

/-- The codebook of the second level is the array's part at 1. -/
theorem book1_at (A : Vec Ideal S4x1024x256 .f32) (k : Fin 1024) (d : Fin 256) : book1 A (ix2 k d) = A (ix3 1 k d) := by
  pointwise [book1]

/-- The codebook of the third level. -/
def book2 (A : Vec Ideal S4x1024x256 .f32) : Vec Ideal S1024x256 .f32 :=
  fun i => shapeCast S1024x256 (extractStridedSlice S1x1024x256 ![2, 0, 0] A Gen.slices_S4x1024x256_S1x1024x256_2_0_0)
    Gen.shapeCasts_S1x1024x256_S1024x256 i

/-- The codebook of the third level is the array's part at 2. -/
theorem book2_at (A : Vec Ideal S4x1024x256 .f32) (k : Fin 1024) (d : Fin 256) : book2 A (ix2 k d) = A (ix3 2 k d) := by
  pointwise [book2]

/-- The codebook of the fourth level. -/
def book3 (A : Vec Ideal S4x1024x256 .f32) : Vec Ideal S1024x256 .f32 :=
  fun i => shapeCast S1024x256 (extractStridedSlice S1x1024x256 ![3, 0, 0] A Gen.slices_S4x1024x256_S1x1024x256_3_0_0)
    Gen.shapeCasts_S1x1024x256_S1024x256 i

/-- The codebook of the fourth level is the array's part at 3. -/
theorem book3_at (A : Vec Ideal S4x1024x256 .f32) (k : Fin 1024) (d : Fin 256) : book3 A (ix2 k d) = A (ix3 3 k d) := by
  pointwise [book3]

variable (V : Valuation τ sig (Elt Ideal))

/-- The codes the first level leaves. -/
theorem codes0 : StableHlo.after level0 V (Proc.devRef .tc main_v17)
    = argmin (dists (V (Proc.devRef .tc main_arg0)) (book0 (V (Proc.devRef .tc main_arg1)))) := by
  unfold level0 line
  simp only [List.take_succ_cons, List.take_zero]
  after_reads_simp
  simp -implicitDefEqProofs only [StableHlo.TRef.toBuf, StableHlo.TRef.ofBuf, cast_cast, cast_eq]
  rw [argmin_eq]
  rfl

/-- The rows the first level leaves over. -/
theorem rest0 : StableHlo.after level0 V (Proc.devRef .tc main_v20)
    = subf (F := Ideal) (φ := .f32) (s := S32768x256) (V (Proc.devRef .tc main_arg0)) (take (book0 (V (Proc.devRef .tc main_arg1))) (argmin (dists (V (Proc.devRef .tc main_arg0)) (book0 (V (Proc.devRef .tc main_arg1)))))) := by
  unfold level0 line
  simp only [List.take_succ_cons, List.take_zero]
  after_reads_simp
  simp -implicitDefEqProofs only [StableHlo.TRef.toBuf, StableHlo.TRef.ofBuf, cast_cast, cast_eq]
  rw [argmin_eq]
  rfl

/-- The sums the first level leaves. -/
theorem sums0 : StableHlo.after level0 V (Proc.devRef .tc main_v19)
    = addf (F := Ideal) (φ := .f32) (s := S32768x256) (broadcastInDim S32768x256 ![] Gen.bcast_S_S32768x256 (constant (F := Ideal) S_ .f32 0x00000000#32)) (take (book0 (V (Proc.devRef .tc main_arg1))) (argmin (dists (V (Proc.devRef .tc main_arg0)) (book0 (V (Proc.devRef .tc main_arg1)))))) := by
  unfold level0 line
  simp only [List.take_succ_cons, List.take_zero]
  after_reads_simp
  simp -implicitDefEqProofs only [StableHlo.TRef.toBuf, StableHlo.TRef.ofBuf, cast_cast, cast_eq]
  rw [argmin_eq]
  rfl

/-- The first level leaves the argument as it was. -/
theorem keep0_arg0 : StableHlo.after level0 V (Proc.devRef .tc main_arg0) = V (Proc.devRef .tc main_arg0) := by
  unfold level0 line
  simp only [List.take_succ_cons, List.take_zero]
  after_reads_simp

/-- The first level leaves the argument as it was. -/
theorem keep0_arg1 : StableHlo.after level0 V (Proc.devRef .tc main_arg1) = V (Proc.devRef .tc main_arg1) := by
  unfold level0 line
  simp only [List.take_succ_cons, List.take_zero]
  after_reads_simp

/-- The codes the second level leaves. -/
theorem codes1 : StableHlo.after level1 V (Proc.devRef .tc main_v37)
    = argmin (dists (V (Proc.devRef .tc main_v20)) (book1 (V (Proc.devRef .tc main_arg1)))) := by
  unfold level1 line
  simp only [List.take_succ_cons, List.take_zero, List.drop_succ_cons, List.drop_zero]
  after_reads_simp
  simp -implicitDefEqProofs only [StableHlo.TRef.toBuf, StableHlo.TRef.ofBuf, cast_cast, cast_eq]
  rw [argmin_eq]
  rfl

/-- The rows the second level leaves over. -/
theorem rest1 : StableHlo.after level1 V (Proc.devRef .tc main_v40)
    = subf (F := Ideal) (φ := .f32) (s := S32768x256) (V (Proc.devRef .tc main_v20)) (take (book1 (V (Proc.devRef .tc main_arg1))) (argmin (dists (V (Proc.devRef .tc main_v20)) (book1 (V (Proc.devRef .tc main_arg1)))))) := by
  unfold level1 line
  simp only [List.take_succ_cons, List.take_zero, List.drop_succ_cons, List.drop_zero]
  after_reads_simp
  simp -implicitDefEqProofs only [StableHlo.TRef.toBuf, StableHlo.TRef.ofBuf, cast_cast, cast_eq]
  rw [argmin_eq]
  rfl

/-- The sums the second level leaves. -/
theorem sums1 : StableHlo.after level1 V (Proc.devRef .tc main_v39)
    = addf (F := Ideal) (φ := .f32) (s := S32768x256) (V (Proc.devRef .tc main_v19)) (take (book1 (V (Proc.devRef .tc main_arg1))) (argmin (dists (V (Proc.devRef .tc main_v20)) (book1 (V (Proc.devRef .tc main_arg1)))))) := by
  unfold level1 line
  simp only [List.take_succ_cons, List.take_zero, List.drop_succ_cons, List.drop_zero]
  after_reads_simp
  simp -implicitDefEqProofs only [StableHlo.TRef.toBuf, StableHlo.TRef.ofBuf, cast_cast, cast_eq]
  rw [argmin_eq]
  rfl

/-- The second level leaves the argument as it was. -/
theorem keep1_arg0 : StableHlo.after level1 V (Proc.devRef .tc main_arg0) = V (Proc.devRef .tc main_arg0) := by
  unfold level1 line
  simp only [List.take_succ_cons, List.take_zero, List.drop_succ_cons, List.drop_zero]
  after_reads_simp

/-- The second level leaves the argument as it was. -/
theorem keep1_arg1 : StableHlo.after level1 V (Proc.devRef .tc main_arg1) = V (Proc.devRef .tc main_arg1) := by
  unfold level1 line
  simp only [List.take_succ_cons, List.take_zero, List.drop_succ_cons, List.drop_zero]
  after_reads_simp

/-- The second level leaves an earlier level's codes as it was. -/
theorem keep1_v17 : StableHlo.after level1 V (Proc.devRef .tc main_v17) = V (Proc.devRef .tc main_v17) := by
  unfold level1 line
  simp only [List.take_succ_cons, List.take_zero, List.drop_succ_cons, List.drop_zero]
  after_reads_simp

/-- The codes the third level leaves. -/
theorem codes2 : StableHlo.after level2 V (Proc.devRef .tc main_v57)
    = argmin (dists (V (Proc.devRef .tc main_v40)) (book2 (V (Proc.devRef .tc main_arg1)))) := by
  unfold level2 line
  simp only [List.take_succ_cons, List.take_zero, List.drop_succ_cons, List.drop_zero]
  after_reads_simp
  simp -implicitDefEqProofs only [StableHlo.TRef.toBuf, StableHlo.TRef.ofBuf, cast_cast, cast_eq]
  rw [argmin_eq]
  rfl

/-- The rows the third level leaves over. -/
theorem rest2 : StableHlo.after level2 V (Proc.devRef .tc main_v60)
    = subf (F := Ideal) (φ := .f32) (s := S32768x256) (V (Proc.devRef .tc main_v40)) (take (book2 (V (Proc.devRef .tc main_arg1))) (argmin (dists (V (Proc.devRef .tc main_v40)) (book2 (V (Proc.devRef .tc main_arg1)))))) := by
  unfold level2 line
  simp only [List.take_succ_cons, List.take_zero, List.drop_succ_cons, List.drop_zero]
  after_reads_simp
  simp -implicitDefEqProofs only [StableHlo.TRef.toBuf, StableHlo.TRef.ofBuf, cast_cast, cast_eq]
  rw [argmin_eq]
  rfl

/-- The sums the third level leaves. -/
theorem sums2 : StableHlo.after level2 V (Proc.devRef .tc main_v59)
    = addf (F := Ideal) (φ := .f32) (s := S32768x256) (V (Proc.devRef .tc main_v39)) (take (book2 (V (Proc.devRef .tc main_arg1))) (argmin (dists (V (Proc.devRef .tc main_v40)) (book2 (V (Proc.devRef .tc main_arg1)))))) := by
  unfold level2 line
  simp only [List.take_succ_cons, List.take_zero, List.drop_succ_cons, List.drop_zero]
  after_reads_simp
  simp -implicitDefEqProofs only [StableHlo.TRef.toBuf, StableHlo.TRef.ofBuf, cast_cast, cast_eq]
  rw [argmin_eq]
  rfl

/-- The third level leaves the argument as it was. -/
theorem keep2_arg0 : StableHlo.after level2 V (Proc.devRef .tc main_arg0) = V (Proc.devRef .tc main_arg0) := by
  unfold level2 line
  simp only [List.take_succ_cons, List.take_zero, List.drop_succ_cons, List.drop_zero]
  after_reads_simp

/-- The third level leaves the argument as it was. -/
theorem keep2_arg1 : StableHlo.after level2 V (Proc.devRef .tc main_arg1) = V (Proc.devRef .tc main_arg1) := by
  unfold level2 line
  simp only [List.take_succ_cons, List.take_zero, List.drop_succ_cons, List.drop_zero]
  after_reads_simp

/-- The third level leaves an earlier level's codes as it was. -/
theorem keep2_v17 : StableHlo.after level2 V (Proc.devRef .tc main_v17) = V (Proc.devRef .tc main_v17) := by
  unfold level2 line
  simp only [List.take_succ_cons, List.take_zero, List.drop_succ_cons, List.drop_zero]
  after_reads_simp

/-- The third level leaves an earlier level's codes as it was. -/
theorem keep2_v37 : StableHlo.after level2 V (Proc.devRef .tc main_v37) = V (Proc.devRef .tc main_v37) := by
  unfold level2 line
  simp only [List.take_succ_cons, List.take_zero, List.drop_succ_cons, List.drop_zero]
  after_reads_simp

/-- The codes the fourth level leaves. -/
theorem codes3 : StableHlo.after level3 V (Proc.devRef .tc main_v77)
    = argmin (dists (V (Proc.devRef .tc main_v60)) (book3 (V (Proc.devRef .tc main_arg1)))) := by
  unfold level3 line
  simp only [List.take_succ_cons, List.take_zero, List.drop_succ_cons, List.drop_zero]
  after_reads_simp
  simp -implicitDefEqProofs only [StableHlo.TRef.toBuf, StableHlo.TRef.ofBuf, cast_cast, cast_eq]
  rw [argmin_eq]
  rfl

/-- The sums the fourth level leaves. -/
theorem sums3 : StableHlo.after level3 V (Proc.devRef .tc main_v79)
    = addf (F := Ideal) (φ := .f32) (s := S32768x256) (V (Proc.devRef .tc main_v59)) (take (book3 (V (Proc.devRef .tc main_arg1))) (argmin (dists (V (Proc.devRef .tc main_v60)) (book3 (V (Proc.devRef .tc main_arg1)))))) := by
  unfold level3 line
  simp only [List.take_succ_cons, List.take_zero, List.drop_succ_cons, List.drop_zero]
  after_reads_simp
  simp -implicitDefEqProofs only [StableHlo.TRef.toBuf, StableHlo.TRef.ofBuf, cast_cast, cast_eq]
  rw [argmin_eq]
  rfl

/-- The fourth level leaves the argument as it was. -/
theorem keep3_arg0 : StableHlo.after level3 V (Proc.devRef .tc main_arg0) = V (Proc.devRef .tc main_arg0) := by
  unfold level3 line
  simp only [List.take_succ_cons, List.take_zero, List.drop_succ_cons, List.drop_zero]
  after_reads_simp

/-- The fourth level leaves the argument as it was. -/
theorem keep3_arg1 : StableHlo.after level3 V (Proc.devRef .tc main_arg1) = V (Proc.devRef .tc main_arg1) := by
  unfold level3 line
  simp only [List.take_succ_cons, List.take_zero, List.drop_succ_cons, List.drop_zero]
  after_reads_simp

/-- The fourth level leaves an earlier level's codes as it was. -/
theorem keep3_v17 : StableHlo.after level3 V (Proc.devRef .tc main_v17) = V (Proc.devRef .tc main_v17) := by
  unfold level3 line
  simp only [List.take_succ_cons, List.take_zero, List.drop_succ_cons, List.drop_zero]
  after_reads_simp

/-- The fourth level leaves an earlier level's codes as it was. -/
theorem keep3_v37 : StableHlo.after level3 V (Proc.devRef .tc main_v37) = V (Proc.devRef .tc main_v37) := by
  unfold level3 line
  simp only [List.take_succ_cons, List.take_zero, List.drop_succ_cons, List.drop_zero]
  after_reads_simp

/-- The fourth level leaves an earlier level's codes as it was. -/
theorem keep3_v57 : StableHlo.after level3 V (Proc.devRef .tc main_v57) = V (Proc.devRef .tc main_v57) := by
  unfold level3 line
  simp only [List.take_succ_cons, List.take_zero, List.drop_succ_cons, List.drop_zero]
  after_reads_simp

/-- Four columns side by side. -/
def sides (a b c e : Vec Ideal S32768x1 .i32) : Vec Ideal S32768x4 .i32 :=
  concatenate S32768x4 1 [⟨S32768x1, a⟩, ⟨S32768x1, b⟩, ⟨S32768x1, c⟩, ⟨S32768x1, e⟩]
    Gen.concatenates_S32768x1_S32768x1_S32768x1_S32768x1_S32768x4_d1

/-- The column of the first level's codes. -/
theorem column0 : StableHlo.after columns V (Proc.devRef .tc main_v81)
    = broadcastInDim S32768x1 ![0] Gen.bcast_S32768_S32768x1_0 (V (Proc.devRef .tc main_v17) : Vec Ideal S32768 .i32) := by
  unfold columns line
  simp only [List.take_succ_cons, List.take_zero, List.drop_succ_cons, List.drop_zero]
  after_reads_simp

/-- The column of the second level's codes. -/
theorem column1 : StableHlo.after columns V (Proc.devRef .tc main_v82)
    = broadcastInDim S32768x1 ![0] Gen.bcast_S32768_S32768x1_0 (V (Proc.devRef .tc main_v37) : Vec Ideal S32768 .i32) := by
  unfold columns line
  simp only [List.take_succ_cons, List.take_zero, List.drop_succ_cons, List.drop_zero]
  after_reads_simp

/-- The column of the third level's codes. -/
theorem column2 : StableHlo.after columns V (Proc.devRef .tc main_v83)
    = broadcastInDim S32768x1 ![0] Gen.bcast_S32768_S32768x1_0 (V (Proc.devRef .tc main_v57) : Vec Ideal S32768 .i32) := by
  unfold columns line
  simp only [List.take_succ_cons, List.take_zero, List.drop_succ_cons, List.drop_zero]
  after_reads_simp

/-- The column of the fourth level's codes. -/
theorem column3 : StableHlo.after columns V (Proc.devRef .tc main_v84)
    = broadcastInDim S32768x1 ![0] Gen.bcast_S32768_S32768x1_0 (V (Proc.devRef .tc main_v77) : Vec Ideal S32768 .i32) := by
  unfold columns line
  simp only [List.take_succ_cons, List.take_zero, List.drop_succ_cons, List.drop_zero]
  after_reads_simp

/-- The columns leave the argument as it was. -/
theorem columns_arg0 : StableHlo.after columns V (Proc.devRef .tc main_arg0) = V (Proc.devRef .tc main_arg0) := by
  unfold columns line
  simp only [List.take_succ_cons, List.take_zero, List.drop_succ_cons, List.drop_zero]
  after_reads_simp

/-- The joining leaves the argument as it was. -/
theorem joined_arg0 : StableHlo.after joined V (Proc.devRef .tc main_arg0) = V (Proc.devRef .tc main_arg0) := by
  unfold joined line
  simp only [List.drop_succ_cons, List.drop_zero]
  after_reads_simp

/-- The columns leave the argument as it was. -/
theorem columns_arg1 : StableHlo.after columns V (Proc.devRef .tc main_arg1) = V (Proc.devRef .tc main_arg1) := by
  unfold columns line
  simp only [List.take_succ_cons, List.take_zero, List.drop_succ_cons, List.drop_zero]
  after_reads_simp

/-- The joining leaves the argument as it was. -/
theorem joined_arg1 : StableHlo.after joined V (Proc.devRef .tc main_arg1) = V (Proc.devRef .tc main_arg1) := by
  unfold joined line
  simp only [List.drop_succ_cons, List.drop_zero]
  after_reads_simp

/-- The columns leave the sums as they were. -/
theorem columns_v79 : StableHlo.after columns V (Proc.devRef .tc main_v79) = V (Proc.devRef .tc main_v79) := by
  unfold columns line
  simp only [List.take_succ_cons, List.take_zero, List.drop_succ_cons, List.drop_zero]
  after_reads_simp

/-- The joining leaves the sums as they were. -/
theorem joined_v79 : StableHlo.after joined V (Proc.devRef .tc main_v79) = V (Proc.devRef .tc main_v79) := by
  unfold joined line
  simp only [List.drop_succ_cons, List.drop_zero]
  after_reads_simp

/-- The joining leaves the columns side by side. -/
theorem joined_all : StableHlo.after joined V (Proc.devRef .tc main_v85)
    = sides (V (Proc.devRef .tc main_v81)) (V (Proc.devRef .tc main_v82)) (V (Proc.devRef .tc main_v83)) (V (Proc.devRef .tc main_v84)) := by
  unfold joined line
  simp only [List.drop_succ_cons, List.drop_zero]
  after_reads_simp
  rfl

end Cert.Proof.RefRun

end
-- ==== Proof.RefValue.lean ====
/-
  The reference's results: along each row the levels of its run are the levels of the residual quantiser, so that the run
  leaves the codes and the sums of the argument arrays.
-/
module

public import proofs.«01_k».proof.Proof.RefRun

@[expose] public section

set_option maxRecDepth 16384

noncomputable section

namespace Cert.Proof.RefValue

open Idealize.ShloMosaic Idealize.SL.Sem Cert.ReferenceIdeal Cert.Proof.Spec Cert.Proof.Level Cert.Proof.ArgMin Cert.Proof.RefOps
open Cert.Proof.RefRun
open Cert.Proof.Entry (cbsOf cbsOf_at codesOf sumsOf)
open Idealize.ShloMosaic.TcCoe

attribute [local instance] Cert.ReferenceIdeal.Gen.facts

/-! ## One level along a row -/

/-- A row of an array. -/
def rowOf (r : Vec Ideal S32768x256 .f32) (i : Fin 32768) : Fin 256 → EReal := fun d => r (ix2 i d)

/-- The codewords of a codebook. -/
def wordsOf (B : Vec Ideal S1024x256 .f32) : Fin 1024 → Fin 256 → EReal := fun k d => B (ix2 k d)

section level

variable {r t : Vec Ideal S32768x256 .f32} {B : Vec Ideal S1024x256 .f32} {cbs : ℕ → Fin 1024 → Fin 256 → EReal}
  {x : Fin 256 → EReal} {l : ℕ} {i : Fin 32768}

/-- A level's code along a row. -/
theorem code_row (hr : rowOf r i = res two cbs x l) (hB : wordsOf B = cbs l) :
    argmin (dists r B) (ix1 i) = BitVec.ofNat 32 (codeAt two cbs x l) := by
  refine (codes_at r B i).trans ?_
  show BitVec.ofNat 32 (code two (rowOf r i) (wordsOf B)) = _
  rw [hr, hB]
  rfl

/-- A level's codeword along a row. -/
theorem pick_row (hr : rowOf r i = res two cbs x l) (hB : wordsOf B = cbs l) (d : Fin 256) :
    take B (argmin (dists r B)) (ix2 i d) = pick two (res two cbs x l) (cbs l) d := by
  refine (picks_at r B i d).trans ?_
  show pick two (rowOf r i) (wordsOf B) d = _
  rw [hr, hB]

/-- What a level leaves over along a row. -/
theorem rest_row (hr : rowOf r i = res two cbs x l) (hB : wordsOf B = cbs l) :
    rowOf (subf (F := Ideal) (φ := .f32) (s := S32768x256) r (take B (argmin (dists r B)))) i = res two cbs x (l + 1) := by
  funext d
  show rowOf r i d - take B (argmin (dists r B)) (ix2 i d) = _
  rw [pick_row hr hB, hr]
  rfl

/-- What a level adds up along a row. -/
theorem sum_row (ht : rowOf t i = total two cbs x l) (hr : rowOf r i = res two cbs x l) (hB : wordsOf B = cbs l) :
    rowOf (addf (F := Ideal) (φ := .f32) (s := S32768x256) t (take B (argmin (dists r B)))) i = total two cbs x (l + 1) := by
  funext d
  show rowOf t i d + take B (argmin (dists r B)) (ix2 i d) = _
  rw [pick_row hr hB, ht]
  rfl

end level

/-- The codewords of the first level are the array's at 0. -/
theorem words0 (A : Vec Ideal S4x1024x256 .f32) : wordsOf (book0 A) = cbsOf A 0 :=
  funext fun k => funext fun d => (book0_at A k d).trans (cbsOf_at A 0 k d).symm

/-- The codewords of the second level are the array's at 1. -/
theorem words1 (A : Vec Ideal S4x1024x256 .f32) : wordsOf (book1 A) = cbsOf A 1 :=
  funext fun k => funext fun d => (book1_at A k d).trans (cbsOf_at A 1 k d).symm

/-- The codewords of the third level are the array's at 2. -/
theorem words2 (A : Vec Ideal S4x1024x256 .f32) : wordsOf (book2 A) = cbsOf A 2 :=
  funext fun k => funext fun d => (book2_at A k d).trans (cbsOf_at A 2 k d).symm

/-- The codewords of the fourth level are the array's at 3. -/
theorem words3 (A : Vec Ideal S4x1024x256 .f32) : wordsOf (book3 A) = cbsOf A 3 :=
  funext fun k => funext fun d => (book3_at A k d).trans (cbsOf_at A 3 k d).symm

/-- The sums start at zero. -/
theorem zero_row (cbs : ℕ → Fin 1024 → Fin 256 → EReal) (x : Fin 256 → EReal) (i : Fin 32768) :
    rowOf (broadcastInDim S32768x256 ![] Gen.bcast_S_S32768x256 (constant (F := Ideal) S_ .f32 0x00000000#32)) i
      = total two cbs x 0 := by
  funext d
  show broadcastInDim S32768x256 ![] Gen.bcast_S_S32768x256 (constant (F := Ideal) S_ .f32 0x00000000#32) (ix2 i d) = (0 : EReal)
  pointwise

/-! ## The levels in turn -/

variable (V : Valuation τ sig (Elt Ideal))

/-- The contents after the first level. -/
def past1 : Valuation τ sig (Elt Ideal) := StableHlo.after level0 V

/-- The contents after two levels. -/
def past2 : Valuation τ sig (Elt Ideal) := StableHlo.after level1 (past1 V)

/-- The contents after three levels. -/
def past3 : Valuation τ sig (Elt Ideal) := StableHlo.after level2 (past2 V)

/-- The contents after four levels. -/
def past4 : Valuation τ sig (Elt Ideal) := StableHlo.after level3 (past3 V)

/-- The codebooks are as they were. -/
theorem arg1_1 : past1 V (Proc.devRef .tc main_arg1) = V (Proc.devRef .tc main_arg1) := keep0_arg1 V

/-- The batch is as it was. -/
theorem arg0_1 : past1 V (Proc.devRef .tc main_arg0) = V (Proc.devRef .tc main_arg0) := keep0_arg0 V

/-- The codebooks are as they were. -/
theorem arg1_2 : past2 V (Proc.devRef .tc main_arg1) = V (Proc.devRef .tc main_arg1) := (keep1_arg1 _).trans (arg1_1 V)

/-- The batch is as it was. -/
theorem arg0_2 : past2 V (Proc.devRef .tc main_arg0) = V (Proc.devRef .tc main_arg0) := (keep1_arg0 _).trans (arg0_1 V)

/-- The codebooks are as they were. -/
theorem arg1_3 : past3 V (Proc.devRef .tc main_arg1) = V (Proc.devRef .tc main_arg1) := (keep2_arg1 _).trans (arg1_2 V)

/-- The batch is as it was. -/
theorem arg0_3 : past3 V (Proc.devRef .tc main_arg0) = V (Proc.devRef .tc main_arg0) := (keep2_arg0 _).trans (arg0_2 V)

/-- The codebooks are as they were. -/
theorem arg1_4 : past4 V (Proc.devRef .tc main_arg1) = V (Proc.devRef .tc main_arg1) := (keep3_arg1 _).trans (arg1_3 V)

/-- The batch is as it was. -/
theorem arg0_4 : past4 V (Proc.devRef .tc main_arg0) = V (Proc.devRef .tc main_arg0) := (keep3_arg0 _).trans (arg0_3 V)

/-- What is left over of a row after the first level. -/
theorem left1 (i : Fin 32768) : rowOf (past1 V (Proc.devRef .tc main_v20)) i = res two (cbsOf (V (Proc.devRef .tc main_arg1))) (rowOf (V (Proc.devRef .tc main_arg0)) i) 1 := by
  unfold past1
  rw [rest0]
  exact rest_row rfl (words0 _)

/-- The sum along a row after the first level. -/
theorem sum1 (i : Fin 32768) : rowOf (past1 V (Proc.devRef .tc main_v19)) i = total two (cbsOf (V (Proc.devRef .tc main_arg1))) (rowOf (V (Proc.devRef .tc main_arg0)) i) 1 := by
  unfold past1
  rw [sums0]
  exact sum_row (zero_row _ _ i) rfl (words0 _)

/-- The first level's code of a row. -/
theorem code1 (i : Fin 32768) : (past1 V (Proc.devRef .tc main_v17) : Vec Ideal S32768 .i32) (ix1 i)
    = BitVec.ofNat 32 (codeAt two (cbsOf (V (Proc.devRef .tc main_arg1))) (rowOf (V (Proc.devRef .tc main_arg0)) i) 0) := by
  unfold past1
  rw [codes0]
  exact code_row rfl (words0 _)

/-- What is left over of a row after the second level. -/
theorem left2 (i : Fin 32768) : rowOf (past2 V (Proc.devRef .tc main_v40)) i = res two (cbsOf (V (Proc.devRef .tc main_arg1))) (rowOf (V (Proc.devRef .tc main_arg0)) i) 2 := by
  unfold past2
  rw [rest1, arg1_1]
  exact rest_row (left1 V i) (words1 _)

/-- The sum along a row after the second level. -/
theorem sum2 (i : Fin 32768) : rowOf (past2 V (Proc.devRef .tc main_v39)) i = total two (cbsOf (V (Proc.devRef .tc main_arg1))) (rowOf (V (Proc.devRef .tc main_arg0)) i) 2 := by
  unfold past2
  rw [sums1, arg1_1]
  exact sum_row (sum1 V i) (left1 V i) (words1 _)

/-- The second level's code of a row. -/
theorem code2 (i : Fin 32768) : (past2 V (Proc.devRef .tc main_v37) : Vec Ideal S32768 .i32) (ix1 i)
    = BitVec.ofNat 32 (codeAt two (cbsOf (V (Proc.devRef .tc main_arg1))) (rowOf (V (Proc.devRef .tc main_arg0)) i) 1) := by
  unfold past2
  rw [codes1, arg1_1]
  exact code_row (left1 V i) (words1 _)

/-- What is left over of a row after the third level. -/
theorem left3 (i : Fin 32768) : rowOf (past3 V (Proc.devRef .tc main_v60)) i = res two (cbsOf (V (Proc.devRef .tc main_arg1))) (rowOf (V (Proc.devRef .tc main_arg0)) i) 3 := by
  unfold past3
  rw [rest2, arg1_2]
  exact rest_row (left2 V i) (words2 _)

/-- The sum along a row after the third level. -/
theorem sum3 (i : Fin 32768) : rowOf (past3 V (Proc.devRef .tc main_v59)) i = total two (cbsOf (V (Proc.devRef .tc main_arg1))) (rowOf (V (Proc.devRef .tc main_arg0)) i) 3 := by
  unfold past3
  rw [sums2, arg1_2]
  exact sum_row (sum2 V i) (left2 V i) (words2 _)

/-- The third level's code of a row. -/
theorem code3 (i : Fin 32768) : (past3 V (Proc.devRef .tc main_v57) : Vec Ideal S32768 .i32) (ix1 i)
    = BitVec.ofNat 32 (codeAt two (cbsOf (V (Proc.devRef .tc main_arg1))) (rowOf (V (Proc.devRef .tc main_arg0)) i) 2) := by
  unfold past3
  rw [codes2, arg1_2]
  exact code_row (left2 V i) (words2 _)

/-- The sum along a row after the fourth level. -/
theorem sum4 (i : Fin 32768) : rowOf (past4 V (Proc.devRef .tc main_v79)) i = total two (cbsOf (V (Proc.devRef .tc main_arg1))) (rowOf (V (Proc.devRef .tc main_arg0)) i) 4 := by
  unfold past4
  rw [sums3, arg1_3]
  exact sum_row (sum3 V i) (left3 V i) (words3 _)

/-- The fourth level's code of a row. -/
theorem code4 (i : Fin 32768) : (past4 V (Proc.devRef .tc main_v77) : Vec Ideal S32768 .i32) (ix1 i)
    = BitVec.ofNat 32 (codeAt two (cbsOf (V (Proc.devRef .tc main_arg1))) (rowOf (V (Proc.devRef .tc main_arg0)) i) 3) := by
  unfold past4
  rw [codes3, arg1_3]
  exact code_row (left3 V i) (words3 _)

/-- The first level's codes are there after the fourth. -/
theorem kept1 : past4 V (Proc.devRef .tc main_v17) = past1 V (Proc.devRef .tc main_v17) := (keep3_v17 _).trans ((keep2_v17 _).trans (keep1_v17 _))

/-- The second level's codes are there after the fourth. -/
theorem kept2 : past4 V (Proc.devRef .tc main_v37) = past2 V (Proc.devRef .tc main_v37) := (keep3_v37 _).trans (keep2_v37 _)

/-- The third level's codes are there after the fourth. -/
theorem kept3 : past4 V (Proc.devRef .tc main_v57) = past3 V (Proc.devRef .tc main_v57) := keep3_v57 _

/-- Of four columns side by side, the first. -/
theorem sides_at0 (a b c e : Vec Ideal S32768 .i32) (i : Fin 32768) :
    sides (broadcastInDim S32768x1 ![0] Gen.bcast_S32768_S32768x1_0 a) (broadcastInDim S32768x1 ![0] Gen.bcast_S32768_S32768x1_0 b)
      (broadcastInDim S32768x1 ![0] Gen.bcast_S32768_S32768x1_0 c) (broadcastInDim S32768x1 ![0] Gen.bcast_S32768_S32768x1_0 e) (ix2 i 0) = a (ix1 i) := by
  pointwise [sides]

/-- Of four columns side by side, the second. -/
theorem sides_at1 (a b c e : Vec Ideal S32768 .i32) (i : Fin 32768) :
    sides (broadcastInDim S32768x1 ![0] Gen.bcast_S32768_S32768x1_0 a) (broadcastInDim S32768x1 ![0] Gen.bcast_S32768_S32768x1_0 b)
      (broadcastInDim S32768x1 ![0] Gen.bcast_S32768_S32768x1_0 c) (broadcastInDim S32768x1 ![0] Gen.bcast_S32768_S32768x1_0 e) (ix2 i 1) = b (ix1 i) := by
  pointwise [sides]

/-- Of four columns side by side, the third. -/
theorem sides_at2 (a b c e : Vec Ideal S32768 .i32) (i : Fin 32768) :
    sides (broadcastInDim S32768x1 ![0] Gen.bcast_S32768_S32768x1_0 a) (broadcastInDim S32768x1 ![0] Gen.bcast_S32768_S32768x1_0 b)
      (broadcastInDim S32768x1 ![0] Gen.bcast_S32768_S32768x1_0 c) (broadcastInDim S32768x1 ![0] Gen.bcast_S32768_S32768x1_0 e) (ix2 i 2) = c (ix1 i) := by
  pointwise [sides]

/-- Of four columns side by side, the fourth. -/
theorem sides_at3 (a b c e : Vec Ideal S32768 .i32) (i : Fin 32768) :
    sides (broadcastInDim S32768x1 ![0] Gen.bcast_S32768_S32768x1_0 a) (broadcastInDim S32768x1 ![0] Gen.bcast_S32768_S32768x1_0 b)
      (broadcastInDim S32768x1 ![0] Gen.bcast_S32768_S32768x1_0 c) (broadcastInDim S32768x1 ![0] Gen.bcast_S32768_S32768x1_0 e) (ix2 i 3) = e (ix1 i) := by
  pointwise [sides]

/-- The codes the run leaves. -/
theorem all_codes : StableHlo.after line.1 V (Proc.devRef .tc main_v85) = codesOf (V (Proc.devRef .tc main_arg0)) (V (Proc.devRef .tc main_arg1)) := by
  rw [after_line, joined_all, column0, column1, column2, column3]
  show sides (broadcastInDim S32768x1 ![0] Gen.bcast_S32768_S32768x1_0 (past4 V (Proc.devRef .tc main_v17))) (broadcastInDim S32768x1 ![0] Gen.bcast_S32768_S32768x1_0 (past4 V (Proc.devRef .tc main_v37)))
    (broadcastInDim S32768x1 ![0] Gen.bcast_S32768_S32768x1_0 (past4 V (Proc.devRef .tc main_v57))) (broadcastInDim S32768x1 ![0] Gen.bcast_S32768_S32768x1_0 (past4 V (Proc.devRef .tc main_v77))) = _
  rw [kept1, kept2, kept3]
  funext j
  obtain ⟨i, l, rfl⟩ : ∃ (i : Fin 32768) (l : Fin 4), j = ix2 i l := ⟨j 0, j 1, eq_ix2 j⟩
  match l with
  | 0 => exact (sides_at0 _ _ _ _ i).trans (code1 V i)
  | 1 => exact (sides_at1 _ _ _ _ i).trans (code2 V i)
  | 2 => exact (sides_at2 _ _ _ _ i).trans (code3 V i)
  | 3 => exact (sides_at3 _ _ _ _ i).trans (code4 V i)

/-- The sums the run leaves. -/
theorem all_sums : StableHlo.after line.1 V (Proc.devRef .tc main_v79) = sumsOf (V (Proc.devRef .tc main_arg0)) (V (Proc.devRef .tc main_arg1)) := by
  rw [after_line, joined_v79, columns_v79]
  funext j
  obtain ⟨i, d, rfl⟩ : ∃ (i : Fin 32768) (d : Fin 256), j = ix2 i d := ⟨j 0, j 1, eq_ix2 j⟩
  exact congrFun (sum4 V i) d

/-- The batch after the run is as it was. -/
theorem all_arg0 : StableHlo.after line.1 V (Proc.devRef .tc main_arg0) = V (Proc.devRef .tc main_arg0) := by
  rw [after_line, joined_arg0, columns_arg0]
  exact arg0_4 V

/-- The codebooks after the run are as they were. -/
theorem all_arg1 : StableHlo.after line.1 V (Proc.devRef .tc main_arg1) = V (Proc.devRef .tc main_arg1) := by
  rw [after_line, joined_arg1, columns_arg1]
  exact arg1_4 V

/-- The run's operations name the core's own buffers only. -/
theorem line_bufs : line.1.Forall fun op => op.bufs ⊆ StableHlo.tcRefs τ sig := by
  unfold line
  simp

/-- The run's operations take no fresh buffer. -/
theorem line_fresh : ∀ op ∈ line.1, op.fresh = ∅ := by
  unfold line
  intro _ h
  (repeat (cases h with | head => rfl | tail _ h => ?_))
  exact nomatch h

/-- The run of the reference: the codes and the sums of the argument arrays, and those left as they were. -/
theorem run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v85)
          = codesOf (m ((c.tc : Thread nD τ).loc main_arg0)) (m ((c.tc : Thread nD τ).loc main_arg1))
      ∧ r.2.mem ((c.tc : Thread nD τ).loc main_v79)
          = sumsOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h := StableHlo.run_hlo defs (main (F := Ideal)) line.2 (by decide) (by decide) line_bufs line_fresh m g
  refine (θ_run defs _ _).mono (fun r hr c => ⟨?_, ?_, ?_, ?_⟩) h
  · exact (hr c main_v85).trans (all_codes (StableHlo.launchContents m c))
  · exact (hr c main_v79).trans (all_sums (StableHlo.launchContents m c))
  · exact (hr c main_arg0).trans (all_arg0 (StableHlo.launchContents m c))
  · exact (hr c main_arg1).trans (all_arg1 (StableHlo.launchContents m c))

end Cert.Proof.RefValue

end
-- ==== Proof.lean ====
/-
  The certificate: the three programs end without a fault whatever the arrays hold, the idealised kernel is the kernel's own
  program, and over the extended reals the kernel and the reference leave the same codes and the same sums.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Entry
public import proofs.«01_k».proof.Proof.RefValue
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem Cert.Kernel

/-- The reference's run ends without a fault, with its semaphores at rest. -/
theorem frame_reference : Cert.quiescent_ReferenceIdeal := by
  intro m g _
  hlo_run
  · exact fun _ => ⟨trivial, trivial⟩
  · exact sem_eq_zero_of_no_sems (sig := Cert.ReferenceIdeal.sig) (by decide) _

/-- Over the extended reals, the kernel and the reference run on equal batches and codebooks leave equal codes and equal
sums, and their arguments as they were. -/
theorem equal_results : Cert.algebraic_KernelIdeal_ReferenceIdeal (hKernelIdeal := Cert.KernelIdeal.Gen.facts)
    (hReferenceIdeal := Cert.ReferenceIdeal.Gen.facts) := by
  intro m g m' g' _ h
  refine ⟨fun c => Entry.codesOf (Entry.argX m c) (Entry.argC m c), fun c => Entry.sumsOf (Entry.argX m c) (Entry.argC m c),
    Entry.run m g, ?_⟩
  refine (θ_run _ _ _).mono (fun r hr c => ?_) (RefValue.run m' g')
  obtain ⟨h0, h1⟩ := h c
  obtain ⟨r0, r1, r2, r3⟩ := hr c
  refine ⟨r0.trans ?_, r1.trans ?_, r2, r3⟩
  · exact congrArg₂ Entry.codesOf h0 h1
  · exact congrArg₂ Entry.sumsOf h0 h1

/-- The certificate's claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  frame_reference, trivial, equal_results⟩

end Cert.Proof

end
